-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v58) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S16384x6144 : Shape := ⟨2, ![16384, 6144]⟩
abbrev S16384x2048 : Shape := ⟨2, ![16384, 2048]⟩
abbrev S512x128 : Shape := ⟨2, ![512, 128]⟩
abbrev S4096x128 : Shape := ⟨2, ![4096, 128]⟩
abbrev S256x256 : Shape := ⟨2, ![256, 256]⟩
abbrev S128x256 : Shape := ⟨2, ![128, 256]⟩
abbrev S128x128 : Shape := ⟨2, ![128, 128]⟩
abbrev S128x1 : Shape := ⟨2, ![128, 1]⟩
abbrev S256x128 : Shape := ⟨2, ![256, 128]⟩
abbrev S128 : Shape := ⟨1, ![128]⟩

abbrev nBuf : Space → Nat
  | .hbm => 2
  | .vmem => 8
  | .smem => 0
  | _ => 0

abbrev bufTy : (tb : Table) → Fin (tcTables nBuf tb) → BufTy
  | .hbm, ⟨0, _⟩ => ⟨S16384x6144, .bf16⟩
  | .hbm, ⟨1, _⟩ => ⟨S16384x2048, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 8], ![false, false, false]⟩

def k0_mult1 (i : grid0.Coords) : BitVec 32 :=
  let c2_i32 : BitVec 32 := 2#32
  let arg2 : BitVec 32 := BitVec.ofNat 32 (i 2).val
  let v17 : BitVec 32 := Scalar.muli c2_i32 arg2
  let c1_i32 : BitVec 32 := 1#32
  let v18 : BitVec 32 := Scalar.addi v17 c1_i32
  let c256_i32 : BitVec 32 := 256#32
  let v20 : BitVec 32 := Scalar.muli v18 c256_i32
  v20
def k0_off1 (i : grid0.Coords) : Fin 2 → Nat :=
  let c2_i32 : BitVec 32 := 2#32
  let arg2 : BitVec 32 := BitVec.ofNat 32 (i 2).val
  let v17 : BitVec 32 := Scalar.muli c2_i32 arg2
  let c1_i32 : BitVec 32 := 1#32
  let v18 : BitVec 32 := Scalar.addi v17 c1_i32
  let c256_i32 : BitVec 32 := 256#32
  let v20 : BitVec 32 := Scalar.muli v18 c256_i32
  let v21 : BitVec 32 := v20
  let v22 : Index := Scalar.indexCast v21
  let c0 : Index := 0#32
  ![v22.toNat, 0]
def k0_mult2 (i : grid0.Coords) : BitVec 32 :=
  let c2_i32_9 : BitVec 32 := 2#32
  let arg2 : BitVec 32 := BitVec.ofNat 32 (i 2).val
  let v19 : BitVec 32 := Scalar.muli c2_i32_9 arg2
  let c256_i32_10 : BitVec 32 := 256#32
  let v24 : BitVec 32 := Scalar.muli v19 c256_i32_10
  v24
def k0_off2 (i : grid0.Coords) : Fin 2 → Nat :=
  let c2_i32_9 : BitVec 32 := 2#32
  let arg2 : BitVec 32 := BitVec.ofNat 32 (i 2).val
  let v19 : BitVec 32 := Scalar.muli c2_i32_9 arg2
  let c256_i32_10 : BitVec 32 := 256#32
  let v24 : BitVec 32 := Scalar.muli v19 c256_i32_10
  let v25 : BitVec 32 := v24
  let v26 : Index := Scalar.indexCast v25
  let c0_11 : Index := 0#32
  ![v26.toNat, 0]
def k0_mult3 (i : grid0.Coords) : BitVec 32 :=
  let c2_i32 : BitVec 32 := 2#32
  let arg2 : BitVec 32 := BitVec.ofNat 32 (i 2).val
  let v17 : BitVec 32 := Scalar.muli c2_i32 arg2
  let c1_i32 : BitVec 32 := 1#32
  let v18 : BitVec 32 := Scalar.addi v17 c1_i32
  let c256_i32_12 : BitVec 32 := 256#32
  let v28 : BitVec 32 := Scalar.muli v18 c256_i32_12
  v28
def k0_mult4 (i : grid0.Coords) : BitVec 32 :=
  let c2_i32_9 : BitVec 32 := 2#32
  let arg2 : BitVec 32 := BitVec.ofNat 32 (i 2).val
  let v19 : BitVec 32 := Scalar.muli c2_i32_9 arg2
  let c256_i32_14 : BitVec 32 := 256#32
  let v32 : BitVec 32 := Scalar.muli v19 c256_i32_14
  v32
@[reducible] def k0_t1_loop (i : grid0.Coords) : Scf.Loop 32 :=
  let c0_i32_83 : BitVec 32 := 0#32
  let arg2 : BitVec 32 := BitVec.ofNat 32 (i 2).val
  let v220 : BitVec 32 := Scalar.subi arg2 c0_i32_83
  let c1_i32_84 : BitVec 32 := 1#32
  let v222 : BitVec 32 := Scalar.divsi v220 c1_i32_84
  let v223 : BitVec 32 := Scalar.muli v222 c1_i32_84
  let v224 : BitVec 32 := Scalar.addi c0_i32_83 v223
  let c1_i32_85 : BitVec 32 := 1#32
  ⟨c0_i32_83, v224, c1_i32_85⟩
def k0_mult5 (i : grid0.Coords) (k0_t1 : Fin (k0_t1_loop i).trips) : BitVec 32 :=
  let c2_i32_95 : BitVec 32 := 2#32
  let arg2 : BitVec 32 := BitVec.ofNat 32 (i 2).val
  let c0_i32_83 : BitVec 32 := 0#32
  let c1_i32_85 : BitVec 32 := 1#32
  let arg7 : BitVec 32 := Scf.iv c0_i32_83 c1_i32_85 k0_t1
  let v235 : BitVec 32 := Scalar.subi arg2 arg7
  let v236 : BitVec 32 := Scalar.muli c2_i32_95 v235
  let c1_i32_96 : BitVec 32 := 1#32
  let v237 : BitVec 32 := Scalar.subi v236 c1_i32_96
  let c256_i32_99 : BitVec 32 := 256#32
  let v241 : BitVec 32 := Scalar.muli v237 c256_i32_99
  v241
def k0_off3 (i : grid0.Coords) (k0_t1 : Fin (k0_t1_loop i).trips) (c1_i32_96 : BitVec 32) : Fin 2 → Nat :=
  let c2_i32_95 : BitVec 32 := 2#32
  let arg2 : BitVec 32 := BitVec.ofNat 32 (i 2).val
  let c0_i32_83 : BitVec 32 := 0#32
  let c1_i32_85 : BitVec 32 := 1#32
  let arg7 : BitVec 32 := Scf.iv c0_i32_83 c1_i32_85 k0_t1
  let v235 : BitVec 32 := Scalar.subi arg2 arg7
  let v236 : BitVec 32 := Scalar.muli c2_i32_95 v235
  let v237 : BitVec 32 := Scalar.subi v236 c1_i32_96
  let c256_i32_99 : BitVec 32 := 256#32
  let v241 : BitVec 32 := Scalar.muli v237 c256_i32_99
  let v242 : BitVec 32 := v241
  let v243 : Index := Scalar.indexCast v242
  let c0_100 : Index := 0#32
  ![v243.toNat, 0]
def k0_mult6 (i : grid0.Coords) (k0_t1 : Fin (k0_t1_loop i).trips) : BitVec 32 :=
  let c2_i32_97 : BitVec 32 := 2#32
  let arg2 : BitVec 32 := BitVec.ofNat 32 (i 2).val
  let c0_i32_83 : BitVec 32 := 0#32
  let c1_i32_85 : BitVec 32 := 1#32
  let arg7 : BitVec 32 := Scf.iv c0_i32_83 c1_i32_85 k0_t1
  let v238 : BitVec 32 := Scalar.subi arg2 arg7
  let v239 : BitVec 32 := Scalar.muli c2_i32_97 v238
  let c2_i32_98 : BitVec 32 := 2#32
  let v240 : BitVec 32 := Scalar.subi v239 c2_i32_98
  let c256_i32_101 : BitVec 32 := 256#32
  let v245 : BitVec 32 := Scalar.muli v240 c256_i32_101
  v245
def k0_mult7 (i : grid0.Coords) (k0_t1 : Fin (k0_t1_loop i).trips) : BitVec 32 :=
  let c2_i32_95 : BitVec 32 := 2#32
  let arg2 : BitVec 32 := BitVec.ofNat 32 (i 2).val
  let c0_i32_83 : BitVec 32 := 0#32
  let c1_i32_85 : BitVec 32 := 1#32
  let arg7 : BitVec 32 := Scf.iv c0_i32_83 c1_i32_85 k0_t1
  let v235 : BitVec 32 := Scalar.subi arg2 arg7
  let v236 : BitVec 32 := Scalar.muli c2_i32_95 v235
  let c1_i32_96 : BitVec 32 := 1#32
  let v237 : BitVec 32 := Scalar.subi v236 c1_i32_96
  let c256_i32_103 : BitVec 32 := 256#32
  let v249 : BitVec 32 := Scalar.muli v237 c256_i32_103
  v249
def k0_mult8 (i : grid0.Coords) (k0_t1 : Fin (k0_t1_loop i).trips) : BitVec 32 :=
  let c2_i32_97 : BitVec 32 := 2#32
  let arg2 : BitVec 32 := BitVec.ofNat 32 (i 2).val
  let c0_i32_83 : BitVec 32 := 0#32
  let c1_i32_85 : BitVec 32 := 1#32
  let arg7 : BitVec 32 := Scf.iv c0_i32_83 c1_i32_85 k0_t1
  let v238 : BitVec 32 := Scalar.subi arg2 arg7
  let v239 : BitVec 32 := Scalar.muli c2_i32_97 v238
  let c2_i32_98 : BitVec 32 := 2#32
  let v240 : BitVec 32 := Scalar.subi v239 c2_i32_98
  let c256_i32_105 : BitVec 32 := 256#32
  let v253 : BitVec 32 := Scalar.muli v240 c256_i32_105
  v253
@[reducible] def k0_t2_loop (i : grid0.Coords) : Scf.Loop 32 :=
  let c0_i32_83 : BitVec 32 := 0#32
  let arg2 : BitVec 32 := BitVec.ofNat 32 (i 2).val
  let v220 : BitVec 32 := Scalar.subi arg2 c0_i32_83
  let c1_i32_84 : BitVec 32 := 1#32
  let v222 : BitVec 32 := Scalar.divsi v220 c1_i32_84
  let v223 : BitVec 32 := Scalar.muli v222 c1_i32_84
  let v224 : BitVec 32 := Scalar.addi c0_i32_83 v223
  let v221 : BitVec 32 := Scalar.addi c0_i32_83 v220
  let c1_i32_86 : BitVec 32 := 1#32
  ⟨v224, v221, c1_i32_86⟩
def k0_mult9 (i : grid0.Coords) (k0_t2 : Fin (k0_t2_loop i).trips) : BitVec 32 :=
  let c2_i32_95 : BitVec 32 := 2#32
  let arg2 : BitVec 32 := BitVec.ofNat 32 (i 2).val
  let c0_i32_83 : BitVec 32 := 0#32
  let v220 : BitVec 32 := Scalar.subi arg2 c0_i32_83
  let c1_i32_84 : BitVec 32 := 1#32
  let v222 : BitVec 32 := Scalar.divsi v220 c1_i32_84
  let v223 : BitVec 32 := Scalar.muli v222 c1_i32_84
  let v224 : BitVec 32 := Scalar.addi c0_i32_83 v223
  let c1_i32_86 : BitVec 32 := 1#32
  let arg7 : BitVec 32 := Scf.iv v224 c1_i32_86 k0_t2
  let v235 : BitVec 32 := Scalar.subi arg2 arg7
  let v236 : BitVec 32 := Scalar.muli c2_i32_95 v235
  let c1_i32_96 : BitVec 32 := 1#32
  let v237 : BitVec 32 := Scalar.subi v236 c1_i32_96
  let c256_i32_99 : BitVec 32 := 256#32
  let v241 : BitVec 32 := Scalar.muli v237 c256_i32_99
  v241
def k0_off4 (i : grid0.Coords) (k0_t2 : Fin (k0_t2_loop i).trips) (c1_i32_96 : BitVec 32) : Fin 2 → Nat :=
  let c2_i32_95 : BitVec 32 := 2#32
  let arg2 : BitVec 32 := BitVec.ofNat 32 (i 2).val
  let c0_i32_83 : BitVec 32 := 0#32
  let v220 : BitVec 32 := Scalar.subi arg2 c0_i32_83
  let c1_i32_84 : BitVec 32 := 1#32
  let v222 : BitVec 32 := Scalar.divsi v220 c1_i32_84
  let v223 : BitVec 32 := Scalar.muli v222 c1_i32_84
  let v224 : BitVec 32 := Scalar.addi c0_i32_83 v223
  let c1_i32_86 : BitVec 32 := 1#32
  let arg7 : BitVec 32 := Scf.iv v224 c1_i32_86 k0_t2
  let v235 : BitVec 32 := Scalar.subi arg2 arg7
  let v236 : BitVec 32 := Scalar.muli c2_i32_95 v235
  let v237 : BitVec 32 := Scalar.subi v236 c1_i32_96
  let c256_i32_99 : BitVec 32 := 256#32
  let v241 : BitVec 32 := Scalar.muli v237 c256_i32_99
  let v242 : BitVec 32 := v241
  let v243 : Index := Scalar.indexCast v242
  let c0_100 : Index := 0#32
  ![v243.toNat, 0]
def k0_mult10 (i : grid0.Coords) (k0_t2 : Fin (k0_t2_loop i).trips) : BitVec 32 :=
  let c2_i32_97 : BitVec 32 := 2#32
  let arg2 : BitVec 32 := BitVec.ofNat 32 (i 2).val
  let c0_i32_83 : BitVec 32 := 0#32
  let v220 : BitVec 32 := Scalar.subi arg2 c0_i32_83
  let c1_i32_84 : BitVec 32 := 1#32
  let v222 : BitVec 32 := Scalar.divsi v220 c1_i32_84
  let v223 : BitVec 32 := Scalar.muli v222 c1_i32_84
  let v224 : BitVec 32 := Scalar.addi c0_i32_83 v223
  let c1_i32_86 : BitVec 32 := 1#32
  let arg7 : BitVec 32 := Scf.iv v224 c1_i32_86 k0_t2
  let v238 : BitVec 32 := Scalar.subi arg2 arg7
  let v239 : BitVec 32 := Scalar.muli c2_i32_97 v238
  let c2_i32_98 : BitVec 32 := 2#32
  let v240 : BitVec 32 := Scalar.subi v239 c2_i32_98
  let c256_i32_101 : BitVec 32 := 256#32
  let v245 : BitVec 32 := Scalar.muli v240 c256_i32_101
  v245
def k0_mult11 (i : grid0.Coords) (k0_t2 : Fin (k0_t2_loop i).trips) : BitVec 32 :=
  let c2_i32_95 : BitVec 32 := 2#32
  let arg2 : BitVec 32 := BitVec.ofNat 32 (i 2).val
  let c0_i32_83 : BitVec 32 := 0#32
  let v220 : BitVec 32 := Scalar.subi arg2 c0_i32_83
  let c1_i32_84 : BitVec 32 := 1#32
  let v222 : BitVec 32 := Scalar.divsi v220 c1_i32_84
  let v223 : BitVec 32 := Scalar.muli v222 c1_i32_84
  let v224 : BitVec 32 := Scalar.addi c0_i32_83 v223
  let c1_i32_86 : BitVec 32 := 1#32
  let arg7 : BitVec 32 := Scf.iv v224 c1_i32_86 k0_t2
  let v235 : BitVec 32 := Scalar.subi arg2 arg7
  let v236 : BitVec 32 := Scalar.muli c2_i32_95 v235
  let c1_i32_96 : BitVec 32 := 1#32
  let v237 : BitVec 32 := Scalar.subi v236 c1_i32_96
  let c256_i32_103 : BitVec 32 := 256#32
  let v249 : BitVec 32 := Scalar.muli v237 c256_i32_103
  v249
def k0_mult12 (i : grid0.Coords) (k0_t2 : Fin (k0_t2_loop i).trips) : BitVec 32 :=
  let c2_i32_97 : BitVec 32 := 2#32
  let arg2 : BitVec 32 := BitVec.ofNat 32 (i 2).val
  let c0_i32_83 : BitVec 32 := 0#32
  let v220 : BitVec 32 := Scalar.subi arg2 c0_i32_83
  let c1_i32_84 : BitVec 32 := 1#32
  let v222 : BitVec 32 := Scalar.divsi v220 c1_i32_84
  let v223 : BitVec 32 := Scalar.muli v222 c1_i32_84
  let v224 : BitVec 32 := Scalar.addi c0_i32_83 v223
  let c1_i32_86 : BitVec 32 := 1#32
  let arg7 : BitVec 32 := Scf.iv v224 c1_i32_86 k0_t2
  let v238 : BitVec 32 := Scalar.subi arg2 arg7
  let v239 : BitVec 32 := Scalar.muli c2_i32_97 v238
  let c2_i32_98 : BitVec 32 := 2#32
  let v240 : BitVec 32 := Scalar.subi v239 c2_i32_98
  let c256_i32_105 : BitVec 32 := 256#32
  let v253 : BitVec 32 := Scalar.muli v240 c256_i32_105
  v253
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x6144 : Shape := ⟨2, ![16384, 6144]⟩
abbrev S4x4096x3x16x128 : Shape := ⟨5, ![4, 4096, 3, 16, 128]⟩
abbrev S4x4096x1x16x128 : Shape := ⟨5, ![4, 4096, 1, 16, 128]⟩
abbrev S4x4096x16x128 : Shape := ⟨4, ![4, 4096, 16, 128]⟩
abbrev S4x16x4096x128 : Shape := ⟨4, ![4, 16, 4096, 128]⟩
abbrev S4096 : Shape := ⟨1, ![4096]⟩
abbrev S4x16x4096x4096 : Shape := ⟨4, ![4, 16, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16384x2048 : Shape := ⟨2, ![16384, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x6144, .f32⟩
  | .hbm, ⟨2, _⟩ => ⟨S4x4096x3x16x128, .f32⟩
  | .hbm, ⟨3, _⟩ => ⟨S4x4096x1x16x128, .f32⟩
  | .hbm, ⟨4, _⟩ => ⟨S4x4096x16x128, .f32⟩
  | .hbm, ⟨5, _⟩ => ⟨S4x16x4096x128, .f32⟩
  | .hbm, ⟨6, _⟩ => ⟨S4x4096x1x16x128, .f32⟩
  | .hbm, ⟨7, _⟩ => ⟨S4x4096x16x128, .f32⟩
  | .hbm, ⟨8, _⟩ => ⟨S4x16x4096x128, .f32⟩
  | .hbm, ⟨9, _⟩ => ⟨S4x4096x1x16x128, .f32⟩
  | .hbm, ⟨10, _⟩ => ⟨S4x4096x16x128, .f32⟩
  | .hbm, ⟨11, _⟩ => ⟨S4x16x4096x128, .f32⟩
  | .hbm, ⟨12, _⟩ => ⟨S4096, .i32⟩
  | .hbm, ⟨13, _⟩ => ⟨S4x16x4096x4096, .f32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4x16x4096x4096, .f32⟩
  | .hbm, ⟨20, _⟩ => ⟨S_, .f32⟩
  | .hbm, ⟨21, _⟩ => ⟨S4x16x4096x4096, .f32⟩
  | .hbm, ⟨22, _⟩ => ⟨S4x16x4096x4096, .f32⟩
  | .hbm, ⟨23, _⟩ => ⟨S4x16x4096x4096, .f32⟩
  | .hbm, ⟨24, _⟩ => ⟨S4x16x4096x4096, .f32⟩
  | .hbm, ⟨25, _⟩ => ⟨S4x16x4096x4096, .i1⟩
  | .hbm, ⟨26, _⟩ => ⟨S4x16x4096x4096, .f32⟩
  | .hbm, ⟨27, _⟩ => ⟨S4x16x4096x4096, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .f32⟩
  | .hbm, ⟨31, _⟩ => ⟨S4x16x4096x4096, .f32⟩
  | .hbm, ⟨32, _⟩ => ⟨S4x16x4096x4096, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S4x16x4096x4096, .f32⟩
  | .hbm, ⟨37, _⟩ => ⟨S_, .f32⟩
  | .hbm, ⟨38, _⟩ => ⟨S4x16x4096x4096, .f32⟩
  | .hbm, ⟨39, _⟩ => ⟨S4x16x4096x4096, .f32⟩
  | .hbm, ⟨40, _⟩ => ⟨S4x16x4096x4096, .f32⟩
  | .hbm, ⟨41, _⟩ => ⟨S4x16x4096x4096, .f32⟩
  | .hbm, ⟨42, _⟩ => ⟨S4x16x4096x4096, .i1⟩
  | .hbm, ⟨43, _⟩ => ⟨S4x16x4096x4096, .f32⟩
  | .hbm, ⟨44, _⟩ => ⟨S4x16x4096x4096, .f32⟩
  | .hbm, ⟨45, _⟩ => ⟨S4x16x4096x4096, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .f32⟩
  | .hbm, ⟨49, _⟩ => ⟨S4x16x4096x4096, .f32⟩
  | .hbm, ⟨50, _⟩ => ⟨S4x16x4096x4096, .f32⟩
  | .hbm, ⟨51, _⟩ => ⟨S4x16x4096x4096, .f32⟩
  | .hbm, ⟨52, _⟩ => ⟨S_, .f32⟩
  | .hbm, ⟨53, _⟩ => ⟨S_, .f32⟩
  | .hbm, ⟨54, _⟩ => ⟨S4x16x4096x4096, .i1⟩
  | .hbm, ⟨55, _⟩ => ⟨S4x16x4096x4096, .f32⟩
  | .hbm, ⟨56, _⟩ => ⟨S4x16x4096x4096, .f32⟩
  | .hbm, ⟨57, _⟩ => ⟨S_, .f32⟩
  | .hbm, ⟨58, _⟩ => ⟨S_, .f32⟩
  | .hbm, ⟨59, _⟩ => ⟨S4x16x4096x4096, .f32⟩
  | .hbm, ⟨60, _⟩ => ⟨S4x16x4096x4096, .f32⟩
  | .hbm, ⟨61, _⟩ => ⟨S4x16x4096x4096, .f32⟩
  | .hbm, ⟨62, _⟩ => ⟨S4x16x4096x4096, .f32⟩
  | .hbm, ⟨63, _⟩ => ⟨S_, .f32⟩
  | .hbm, ⟨64, _⟩ => ⟨S_, .f32⟩
  | .hbm, ⟨65, _⟩ => ⟨S4x16x4096x4096, .i1⟩
  | .hbm, ⟨66, _⟩ => ⟨S4x16x4096x4096, .f32⟩
  | .hbm, ⟨67, _⟩ => ⟨S4x16x4096x4096, .f32⟩
  | .hbm, ⟨68, _⟩ => ⟨S4x16x4096x128, .f32⟩
  | .hbm, ⟨69, _⟩ => ⟨S4x4096x16x128, .f32⟩
  | .hbm, ⟨70, _⟩ => ⟨S16384x2048, .f32⟩
  | .hbm, ⟨71, _⟩ => ⟨S16384x2048, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v20 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v21 : Ref sig .tc := ⟨.hbm, 56, rfl⟩
abbrev main_call3_cst : Ref sig .tc := ⟨.hbm, 57, rfl⟩
abbrev main_call3_v0 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]
-- ==== Kernel2.lean ====
abbrev S16384x2048 : Shape := ⟨2, ![16384, 2048]⟩
abbrev S1x2048x6144 : Shape := ⟨3, ![1, 2048, 6144]⟩
abbrev S2048x6144 : Shape := ⟨2, ![2048, 6144]⟩
abbrev S2048x2048 : Shape := ⟨2, ![2048, 2048]⟩
abbrev S_ : Shape := ⟨0, ![]⟩
abbrev S2048x4096 : Shape := ⟨2, ![2048, 4096]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x6144, .f32⟩
  | .hbm, ⟨2, _⟩ => ⟨S2048x6144, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S2048x6144, .f32⟩
  | .hbm, ⟨9, _⟩ => ⟨S2048x6144, .bf16⟩
  | .hbm, ⟨10, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S1x2048x6144 : Shape := ⟨3, ![1, 2048, 6144]⟩
abbrev S2048x6144 : Shape := ⟨2, ![2048, 6144]⟩
abbrev S16384x6144 : Shape := ⟨2, ![16384, 6144]⟩
abbrev S_ : Shape := ⟨0, ![]⟩
abbrev S16384x4096 : Shape := ⟨2, ![16384, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x6144, .f32⟩
  | .hbm, ⟨2, _⟩ => ⟨S16384x2048, .f32⟩
  | .hbm, ⟨3, _⟩ => ⟨S2048x6144, .f32⟩
  | .hbm, ⟨4, _⟩ => ⟨S16384x6144, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x4096, .f32⟩
  | .hbm, ⟨10, _⟩ => ⟨S16384x6144, .f32⟩
  | .hbm, ⟨11, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S16384x2048 : Shape := ⟨2, ![16384, 2048]⟩
abbrev S1x2048x10272 : Shape := ⟨3, ![1, 2048, 10272]⟩
abbrev S2048x10272 : Shape := ⟨2, ![2048, 10272]⟩
abbrev S2048x6144 : Shape := ⟨2, ![2048, 6144]⟩
abbrev S2048x4096 : Shape := ⟨2, ![2048, 4096]⟩
abbrev S2048x10240 : Shape := ⟨2, ![2048, 10240]⟩
abbrev S16384x10240 : Shape := ⟨2, ![16384, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x10272, .f32⟩
  | .hbm, ⟨2, _⟩ => ⟨S2048x10272, .f32⟩
  | .hbm, ⟨3, _⟩ => ⟨S2048x6144, .f32⟩
  | .hbm, ⟨4, _⟩ => ⟨S2048x4096, .f32⟩
  | .hbm, ⟨5, _⟩ => ⟨S2048x10240, .f32⟩
  | .hbm, ⟨6, _⟩ => ⟨S2048x10240, .bf16⟩
  | .hbm, ⟨7, _⟩ => ⟨S16384x10240, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S1x2048x10272 : Shape := ⟨3, ![1, 2048, 10272]⟩
abbrev S2048x10272 : Shape := ⟨2, ![2048, 10272]⟩
abbrev S16384x10272 : Shape := ⟨2, ![16384, 10272]⟩
abbrev S16384x6144 : Shape := ⟨2, ![16384, 6144]⟩
abbrev S16384x4096 : Shape := ⟨2, ![16384, 4096]⟩
abbrev S16384x10240 : Shape := ⟨2, ![16384, 10240]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x10272, .f32⟩
  | .hbm, ⟨2, _⟩ => ⟨S16384x2048, .f32⟩
  | .hbm, ⟨3, _⟩ => ⟨S2048x10272, .f32⟩
  | .hbm, ⟨4, _⟩ => ⟨S16384x10272, .f32⟩
  | .hbm, ⟨5, _⟩ => ⟨S16384x6144, .f32⟩
  | .hbm, ⟨6, _⟩ => ⟨S16384x4096, .f32⟩
  | .hbm, ⟨7, _⟩ => ⟨S16384x10240, .f32⟩
  | .hbm, ⟨8, _⟩ => ⟨S16384x10240, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S16384x2048 : Shape := ⟨2, ![16384, 2048]⟩
abbrev S1x4096x2048 : Shape := ⟨3, ![1, 4096, 2048]⟩
abbrev S4x1x2048 : Shape := ⟨3, ![4, 1, 2048]⟩
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x2048, .f32⟩
  | .hbm, ⟨3, _⟩ => ⟨S16384x2048, .f32⟩
  | .hbm, ⟨4, _⟩ => ⟨S4x1x2048, .f32⟩
  | .hbm, ⟨5, _⟩ => ⟨S4096x2048, .f32⟩
  | .hbm, ⟨6, _⟩ => ⟨S4096x2048, .bf16⟩
  | .hbm, ⟨7, _⟩ => ⟨S2048x2048, .bf16⟩
  | .hbm, ⟨8, _⟩ => ⟨S2048x2048, .bf16⟩
  | .hbm, ⟨9, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S16384x2048 : Shape := ⟨2, ![16384, 2048]⟩
abbrev S1x4096x2048 : Shape := ⟨3, ![1, 4096, 2048]⟩
abbrev S4x1x2048 : Shape := ⟨3, ![4, 1, 2048]⟩
abbrev S16384x4096 : Shape := ⟨2, ![16384, 4096]⟩
abbrev S4096x2048 : Shape := ⟨2, ![4096, 2048]⟩
abbrev S4x4096x2048 : Shape := ⟨3, ![4, 4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x2048, .f32⟩
  | .hbm, ⟨3, _⟩ => ⟨S16384x2048, .f32⟩
  | .hbm, ⟨4, _⟩ => ⟨S4x1x2048, .f32⟩
  | .hbm, ⟨5, _⟩ => ⟨S16384x4096, .bf16⟩
  | .hbm, ⟨6, _⟩ => ⟨S16384x4096, .f32⟩
  | .hbm, ⟨7, _⟩ => ⟨S4096x2048, .f32⟩
  | .hbm, ⟨8, _⟩ => ⟨S16384x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S16384x2048 : Shape := ⟨2, ![16384, 2048]⟩
abbrev S1x2048x2048 : Shape := ⟨3, ![1, 2048, 2048]⟩
abbrev S4x1x2048 : Shape := ⟨3, ![4, 1, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S4x1x2048, .f32⟩
  | .hbm, ⟨4, _⟩ => ⟨S2048x2048, .f32⟩
  | .hbm, ⟨5, _⟩ => ⟨S2048x2048, .bf16⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x2048 : Shape := ⟨2, ![16384, 2048]⟩
abbrev S1x2048x2048 : Shape := ⟨3, ![1, 2048, 2048]⟩
abbrev S4x1x2048 : Shape := ⟨3, ![4, 1, 2048]⟩
abbrev S2048x2048 : Shape := ⟨2, ![2048, 2048]⟩
abbrev S4x4096x2048 : Shape := ⟨3, ![4, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S4x1x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel6.lean ====
abbrev S2048x16384 : Shape := ⟨2, ![2048, 16384]⟩
abbrev S2048x2048 : Shape := ⟨2, ![2048, 2048]⟩
abbrev S8x2x128x128 : Shape := ⟨4, ![8, 2, 128, 128]⟩
abbrev S16x8x8x16384 : Shape := ⟨4, ![16, 8, 8, 16384]⟩
abbrev S8x128x16384 : Shape := ⟨3, ![8, 128, 16384]⟩
abbrev S2048x256 : Shape := ⟨2, ![2048, 256]⟩
abbrev S16x8x8x256 : Shape := ⟨4, ![16, 8, 8, 256]⟩
abbrev S8x128x256 : Shape := ⟨3, ![8, 128, 256]⟩
abbrev S56x256 : Shape := ⟨2, ![56, 256]⟩
abbrev S1x1x128x128 : Shape := ⟨4, ![1, 1, 128, 128]⟩
abbrev S128x128 : Shape := ⟨2, ![128, 128]⟩
abbrev S128x256 : Shape := ⟨2, ![128, 256]⟩
abbrev S256 : Shape := ⟨1, ![256]⟩
abbrev S1x256 : Shape := ⟨2, ![1, 256]⟩
abbrev S8x256 : Shape := ⟨2, ![8, 256]⟩
abbrev S1x1x8x256 : Shape := ⟨4, ![1, 1, 8, 256]⟩
abbrev S1x128x256 : Shape := ⟨3, ![1, 128, 256]⟩

abbrev nBuf : Space → Nat
  | .hbm => 8
  | .vmem => 14
  | .smem => 0
  | _ => 0

abbrev bufTy : (tb : Table) → Fin (tcTables nBuf tb) → BufTy
  | .hbm, ⟨0, _⟩ => ⟨S2048x16384, .bf16⟩
  | .hbm, ⟨1, _⟩ => ⟨S2048x2048, .bf16⟩
  | .hbm, ⟨2, _⟩ => ⟨S8x2x128x128, .f32⟩
  | .hbm, ⟨3, _⟩ => ⟨S8x2x128x128, .bf16⟩
  | .hbm, ⟨4, _⟩ => ⟨S16x8x8x16384, .f32⟩
  | .hbm, ⟨5, _⟩ => ⟨S16x8x8x16384, .f32⟩
  | .hbm, ⟨6, _⟩ => ⟨S8x128x16384, .bf16⟩
  | .hbm, ⟨7, _⟩ => ⟨S8x128x16384, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S8x2x128x128, .bf16⟩
  | .local _ .vmem, ⟨4, _⟩ => ⟨S16x8x8x256, .f32⟩
  | .local _ .vmem, ⟨5, _⟩ => ⟨S16x8x8x256, .f32⟩
  | .local _ .vmem, ⟨6, _⟩ => ⟨S16x8x8x256, .f32⟩
  | .local _ .vmem, ⟨7, _⟩ => ⟨S16x8x8x256, .f32⟩
  | .local _ .vmem, ⟨8, _⟩ => ⟨S8x128x256, .bf16⟩
  | .local _ .vmem, ⟨9, _⟩ => ⟨S8x128x256, .bf16⟩
  | .local _ .vmem, ⟨10, _⟩ => ⟨S8x128x256, .bf16⟩
  | .local _ .vmem, ⟨11, _⟩ => ⟨S8x128x256, .bf16⟩
  | .local _ .vmem, ⟨12, _⟩ => ⟨S2048x256, .bf16⟩
  | .local _ .vmem, ⟨13, _⟩ => ⟨S56x256, .f32⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let c0_i32_9 : BitVec 32 := 0#32
  let v13 : BitVec 32 := Scalar.addi v12 c0_i32_9
  v13
def k0_off1 (k0_t1 : Fin k0_t1_loop.trips) : Fin 4 → Nat :=
  let c0_i32 : BitVec 32 := 0#32
  let c1_i32 : BitVec 32 := 1#32
  let arg10 : BitVec 32 := Scf.iv c0_i32 c1_i32 k0_t1
  let v15 : Index := Scalar.indexCast arg10
  let c0_10 : Index := 0#32
  let c0_11 : Index := 0#32
  let c0_12 : Index := 0#32
  ![v15.toNat, 0, 0, 0]
def k0_off2 (k0_t1 : Fin k0_t1_loop.trips) (c0_i32_9 : BitVec 32) : Fin 2 → Nat :=
  let c0_i32 : BitVec 32 := 0#32
  let c1_i32 : BitVec 32 := 1#32
  let arg10 : BitVec 32 := Scf.iv c0_i32 c1_i32 k0_t1
  let c256_i32 : BitVec 32 := 256#32
  let v12 : BitVec 32 := Scalar.muli arg10 c256_i32
  let v13 : BitVec 32 := Scalar.addi v12 c0_i32_9
  let v14 : BitVec 32 := v13
  let v18 : Index := Scalar.indexCast v14
  let c0_13 : Index := 0#32
  ![v18.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_48 : BitVec 32 := 256#32
  let v119 : BitVec 32 := Scalar.muli arg10 c256_i32_48
  let c128_i32 : BitVec 32 := 128#32
  let v120 : BitVec 32 := Scalar.addi v119 c128_i32
  v120
def k0_off3 (k0_t1 : Fin k0_t1_loop.trips) : Fin 4 → Nat :=
  let c0_i32 : BitVec 32 := 0#32
  let c1_i32 : BitVec 32 := 1#32
  let arg10 : BitVec 32 := Scf.iv c0_i32 c1_i32 k0_t1
  let v122 : Index := Scalar.indexCast arg10
  let c1 : Index := 1#32
  let c0_49 : Index := 0#32
  let c0_50 : Index := 0#32
  ![v122.toNat, 1, 0, 0]
def k0_off4 (k0_t1 : Fin k0_t1_loop.trips) : Fin 4 → Nat :=
  let c0_232 : Index := 0#32
  let c0_i32 : BitVec 32 := 0#32
  let c1_i32 : BitVec 32 := 1#32
  let arg10 : BitVec 32 := Scf.iv c0_i32 c1_i32 k0_t1
  let v711 : Index := Scalar.indexCast arg10
  let c0_233 : Index := 0#32
  let c0_234 : Index := 0#32
  ![0, v711.toNat, 0, 0]
def k0_off5 (k0_t1 : Fin k0_t1_loop.trips) : Fin 4 → Nat :=
  let c1_238 : Index := 1#32
  let c0_i32 : BitVec 32 := 0#32
  let c1_i32 : BitVec 32 := 1#32
  let arg10 : BitVec 32 := Scf.iv c0_i32 c1_i32 k0_t1
  let v721 : Index := Scalar.indexCast arg10
  let c0_239 : Index := 0#32
  let c0_240 : Index := 0#32
  ![1, v721.toNat, 0, 0]
def k0_off6 (k0_t1 : Fin k0_t1_loop.trips) : Fin 4 → Nat :=
  let c2_244 : Index := 2#32
  let c0_i32 : BitVec 32 := 0#32
  let c1_i32 : BitVec 32 := 1#32
  let arg10 : BitVec 32 := Scf.iv c0_i32 c1_i32 k0_t1
  let v731 : Index := Scalar.indexCast arg10
  let c0_245 : Index := 0#32
  let c0_246 : Index := 0#32
  ![2, v731.toNat, 0, 0]
def k0_off7 (k0_t1 : Fin k0_t1_loop.trips) : Fin 4 → Nat :=
  let c3_250 : Index := 3#32
  let c0_i32 : BitVec 32 := 0#32
  let c1_i32 : BitVec 32 := 1#32
  let arg10 : BitVec 32 := Scf.iv c0_i32 c1_i32 k0_t1
  let v741 : Index := Scalar.indexCast arg10
  let c0_251 : Index := 0#32
  let c0_252 : Index := 0#32
  ![3, v741.toNat, 0, 0]
def k0_off8 (k0_t1 : Fin k0_t1_loop.trips) : Fin 4 → Nat :=
  let c4_256 : Index := 4#32
  let c0_i32 : BitVec 32 := 0#32
  let c1_i32 : BitVec 32 := 1#32
  let arg10 : BitVec 32 := Scf.iv c0_i32 c1_i32 k0_t1
  let v751 : Index := Scalar.indexCast arg10
  let c0_257 : Index := 0#32
  let c0_258 : Index := 0#32
  ![4, v751.toNat, 0, 0]
def k0_off9 (k0_t1 : Fin k0_t1_loop.trips) : Fin 4 → Nat :=
  let c5_262 : Index := 5#32
  let c0_i32 : BitVec 32 := 0#32
  let c1_i32 : BitVec 32 := 1#32
  let arg10 : BitVec 32 := Scf.iv c0_i32 c1_i32 k0_t1
  let v761 : Index := Scalar.indexCast arg10
  let c0_263 : Index := 0#32
  let c0_264 : Index := 0#32
  ![5, v761.toNat, 0, 0]
def k0_off10 (k0_t1 : Fin k0_t1_loop.trips) : Fin 4 → Nat :=
  let c6_268 : Index := 6#32
  let c0_i32 : BitVec 32 := 0#32
  let c1_i32 : BitVec 32 := 1#32
  let arg10 : BitVec 32 := Scf.iv c0_i32 c1_i32 k0_t1
  let v771 : Index := Scalar.indexCast arg10
  let c0_269 : Index := 0#32
  let c0_270 : Index := 0#32
  ![6, v771.toNat, 0, 0]
def k0_off11 (k0_t1 : Fin k0_t1_loop.trips) : Fin 4 → Nat :=
  let c7_274 : Index := 7#32
  let c0_i32 : BitVec 32 := 0#32
  let c1_i32 : BitVec 32 := 1#32
  let arg10 : BitVec 32 := Scf.iv c0_i32 c1_i32 k0_t1
  let v781 : Index := Scalar.indexCast arg10
  let c0_275 : Index := 0#32
  let c0_276 : Index := 0#32
  ![7, v781.toNat, 0, 0]
def k0_off12 (k0_t1 : Fin k0_t1_loop.trips) : Fin 4 → Nat :=
  let c8_280 : Index := 8#32
  let c0_i32 : BitVec 32 := 0#32
  let c1_i32 : BitVec 32 := 1#32
  let arg10 : BitVec 32 := Scf.iv c0_i32 c1_i32 k0_t1
  let v791 : Index := Scalar.indexCast arg10
  let c0_281 : Index := 0#32
  let c0_282 : Index := 0#32
  ![8, v791.toNat, 0, 0]
def k0_off13 (k0_t1 : Fin k0_t1_loop.trips) : Fin 4 → Nat :=
  let c9_286 : Index := 9#32
  let c0_i32 : BitVec 32 := 0#32
  let c1_i32 : BitVec 32 := 1#32
  let arg10 : BitVec 32 := Scf.iv c0_i32 c1_i32 k0_t1
  let v801 : Index := Scalar.indexCast arg10
  let c0_287 : Index := 0#32
  let c0_288 : Index := 0#32
  ![9, v801.toNat, 0, 0]
def k0_off14 (k0_t1 : Fin k0_t1_loop.trips) : Fin 4 → Nat :=
  let c10_292 : Index := 10#32
  let c0_i32 : BitVec 32 := 0#32
  let c1_i32 : BitVec 32 := 1#32
  let arg10 : BitVec 32 := Scf.iv c0_i32 c1_i32 k0_t1
  let v811 : Index := Scalar.indexCast arg10
  let c0_293 : Index := 0#32
  let c0_294 : Index := 0#32
  ![10, v811.toNat, 0, 0]
def k0_off15 (k0_t1 : Fin k0_t1_loop.trips) : Fin 4 → Nat :=
  let c11_298 : Index := 11#32
  let c0_i32 : BitVec 32 := 0#32
  let c1_i32 : BitVec 32 := 1#32
  let arg10 : BitVec 32 := Scf.iv c0_i32 c1_i32 k0_t1
  let v821 : Index := Scalar.indexCast arg10
  let c0_299 : Index := 0#32
  let c0_300 : Index := 0#32
  ![11, v821.toNat, 0, 0]
def k0_off16 (k0_t1 : Fin k0_t1_loop.trips) : Fin 4 → Nat :=
  let c12_304 : Index := 12#32
  let c0_i32 : BitVec 32 := 0#32
  let c1_i32 : BitVec 32 := 1#32
  let arg10 : BitVec 32 := Scf.iv c0_i32 c1_i32 k0_t1
  let v831 : Index := Scalar.indexCast arg10
  let c0_305 : Index := 0#32
  let c0_306 : Index := 0#32
  ![12, v831.toNat, 0, 0]
def k0_off17 (k0_t1 : Fin k0_t1_loop.trips) : Fin 4 → Nat :=
  let c13_310 : Index := 13#32
  let c0_i32 : BitVec 32 := 0#32
  let c1_i32 : BitVec 32 := 1#32
  let arg10 : BitVec 32 := Scf.iv c0_i32 c1_i32 k0_t1
  let v841 : Index := Scalar.indexCast arg10
  let c0_311 : Index := 0#32
  let c0_312 : Index := 0#32
  ![13, v841.toNat, 0, 0]
def k0_off18 (k0_t1 : Fin k0_t1_loop.trips) : Fin 4 → Nat :=
  let c14_316 : Index := 14#32
  let c0_i32 : BitVec 32 := 0#32
  let c1_i32 : BitVec 32 := 1#32
  let arg10 : BitVec 32 := Scf.iv c0_i32 c1_i32 k0_t1
  let v851 : Index := Scalar.indexCast arg10
  let c0_317 : Index := 0#32
  let c0_318 : Index := 0#32
  ![14, v851.toNat, 0, 0]
def k0_off19 (k0_t1 : Fin k0_t1_loop.trips) : Fin 4 → Nat :=
  let c15_322 : Index := 15#32
  let c0_i32 : BitVec 32 := 0#32
  let c1_i32 : BitVec 32 := 1#32
  let arg10 : BitVec 32 := Scf.iv c0_i32 c1_i32 k0_t1
  let v861 : Index := Scalar.indexCast arg10
  let c0_323 : Index := 0#32
  let c0_324 : Index := 0#32
  ![15, v861.toNat, 0, 0]
def k0_off20 (k0_t1 : Fin k0_t1_loop.trips) : Fin 3 → Nat :=
  let c0_i32 : BitVec 32 := 0#32
  let c1_i32 : BitVec 32 := 1#32
  let arg10 : BitVec 32 := Scf.iv c0_i32 c1_i32 k0_t1
  let v871 : Index := Scalar.indexCast arg10
  let c0_328 : Index := 0#32
  let c0_329 : Index := 0#32
  ![v871.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x8x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2048x16384 : Shape := ⟨2, ![2048, 16384]⟩
abbrev S2048x2048 : Shape := ⟨2, ![2048, 2048]⟩
abbrev S8x2x128x128 : Shape := ⟨4, ![8, 2, 128, 128]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S16384x8x1x128 : Shape := ⟨4, ![16384, 8, 1, 128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S16384x8x16x8 : Shape := ⟨4, ![16384, 8, 16, 8]⟩
abbrev S16x8x8x16384 : Shape := ⟨4, ![16, 8, 8, 16384]⟩

abbrev nBuf : Space → Nat
  | .hbm => 21
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S2048x2048, .bf16⟩
  | .hbm, ⟨2, _⟩ => ⟨S8x2x128x128, .f32⟩
  | .hbm, ⟨3, _⟩ => ⟨S16384x2048, .bf16⟩
  | .hbm, ⟨4, _⟩ => ⟨S16384x2048, .f32⟩
  | .hbm, ⟨5, _⟩ => ⟨S2048x2048, .bf16⟩
  | .hbm, ⟨6, _⟩ => ⟨S2048x2048, .f32⟩
  | .hbm, ⟨7, _⟩ => ⟨S16384x2048, .f32⟩
  | .hbm, ⟨8, _⟩ => ⟨S16384x8x2x128, .f32⟩
  | .hbm, ⟨9, _⟩ => ⟨S8x2x128x16384, .f32⟩
  | .hbm, ⟨10, _⟩ => ⟨S16384x8x2x128, .f32⟩
  | .hbm, ⟨11, _⟩ => ⟨S16384x8x1x128, .f32⟩
  | .hbm, ⟨12, _⟩ => ⟨S16384x8x128, .f32⟩
  | .hbm, ⟨13, _⟩ => ⟨S_, .f32⟩
  | .hbm, ⟨14, _⟩ => ⟨S16384x8, .f32⟩
  | .hbm, ⟨15, _⟩ => ⟨S16384x8x1, .f32⟩
  | .hbm, ⟨16, _⟩ => ⟨S16384x8x128, .f32⟩
  | .hbm, ⟨17, _⟩ => ⟨S16384x8x128, .f32⟩
  | .hbm, ⟨18, _⟩ => ⟨S16384x8x128, .f32⟩
  | .hbm, ⟨19, _⟩ => ⟨S16384x8x16x8, .f32⟩
  | .hbm, ⟨20, _⟩ => ⟨S16x8x8x16384, .f32⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel7.lean ====
abbrev S16384x2048 : Shape := ⟨2, ![16384, 2048]⟩
abbrev S1x2048x10272 : Shape := ⟨3, ![1, 2048, 10272]⟩
abbrev S2048x10272 : Shape := ⟨2, ![2048, 10272]⟩
abbrev S2048x32 : Shape := ⟨2, ![2048, 32]⟩
abbrev S_ : Shape := ⟨0, ![]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 9
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S1x2048x10272, .f32⟩
  | .hbm, ⟨2, _⟩ => ⟨S2048x10272, .f32⟩
  | .hbm, ⟨3, _⟩ => ⟨S2048x32, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16384x2048 : Shape := ⟨2, ![16384, 2048]⟩
abbrev S1x2048x10272 : Shape := ⟨3, ![1, 2048, 10272]⟩
abbrev S2048x10272 : Shape := ⟨2, ![2048, 10272]⟩
abbrev S16384x10272 : Shape := ⟨2, ![16384, 10272]⟩
abbrev S16384x32 : Shape := ⟨2, ![16384, 32]⟩
abbrev S_ : Shape := ⟨0, ![]⟩
abbrev S16384x128 : Shape := ⟨2, ![16384, 128]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x10272, .f32⟩
  | .hbm, ⟨2, _⟩ => ⟨S16384x2048, .f32⟩
  | .hbm, ⟨3, _⟩ => ⟨S2048x10272, .f32⟩
  | .hbm, ⟨4, _⟩ => ⟨S16384x10272, .f32⟩
  | .hbm, ⟨5, _⟩ => ⟨S16384x32, .f32⟩
  | .hbm, ⟨6, _⟩ => ⟨S_, .i32⟩
  | .hbm, ⟨7, _⟩ => ⟨S_, .f32⟩
  | .hbm, ⟨8, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S16384x10240 : Shape := ⟨2, ![16384, 10240]⟩
abbrev S1x2048 : Shape := ⟨2, ![1, 2048]⟩
abbrev S1x16x128x128 : Shape := ⟨4, ![1, 16, 128, 128]⟩
abbrev S1x16x128 : Shape := ⟨3, ![1, 16, 128]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S128x16x128 : Shape := ⟨3, ![128, 16, 128]⟩
abbrev S128x2048 : Shape := ⟨2, ![128, 2048]⟩
abbrev S16384x2048 : Shape := ⟨2, ![16384, 2048]⟩
abbrev S256x2048 : Shape := ⟨2, ![256, 2048]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 15
  | .vmem => 10
  | .smem => 0
  | _ => 0

abbrev bufTy : (tb : Table) → Fin (tcTables nBuf tb) → BufTy
  | .hbm, ⟨0, _⟩ => ⟨S16384x10240, .bf16⟩
  | .hbm, ⟨1, _⟩ => ⟨S1x2048, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S2048, .f32⟩
  | .hbm, ⟨6, _⟩ => ⟨S2048, .f32⟩
  | .hbm, ⟨7, _⟩ => ⟨S16x128x128, .f32⟩
  | .hbm, ⟨8, _⟩ => ⟨S16x128, .f32⟩
  | .hbm, ⟨9, _⟩ => ⟨S128x16, .f32⟩
  | .hbm, ⟨10, _⟩ => ⟨S128x16x128, .f32⟩
  | .hbm, ⟨11, _⟩ => ⟨S128x2048, .f32⟩
  | .hbm, ⟨12, _⟩ => ⟨S1x2048, .f32⟩
  | .hbm, ⟨13, _⟩ => ⟨S1x2048, .f32⟩
  | .hbm, ⟨14, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S128x2048, .f32⟩
  | .local _ .vmem, ⟨8, _⟩ => ⟨S256x2048, .bf16⟩
  | .local _ .vmem, ⟨9, _⟩ => ⟨S256x2048, .bf16⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S16384x10240 : Shape := ⟨2, ![16384, 10240]⟩
abbrev S1x2048 : Shape := ⟨2, ![1, 2048]⟩
abbrev S1x16x128x128 : Shape := ⟨4, ![1, 16, 128, 128]⟩
abbrev S1x16x128 : Shape := ⟨3, ![1, 16, 128]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S2048 : Shape := ⟨1, ![2048]⟩
abbrev S128x128x16x128 : Shape := ⟨4, ![128, 128, 16, 128]⟩
abbrev S16x128x128 : Shape := ⟨3, ![16, 128, 128]⟩
abbrev S128x128 : Shape := ⟨2, ![128, 128]⟩
abbrev S1x128x128 : Shape := ⟨3, ![1, 128, 128]⟩
abbrev S16x128x128x128 : Shape := ⟨4, ![16, 128, 128, 128]⟩
abbrev S16x128 : Shape := ⟨2, ![16, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 82
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S1x2048, .f32⟩
  | .hbm, ⟨2, _⟩ => ⟨S1x2048, .f32⟩
  | .hbm, ⟨3, _⟩ => ⟨S1x16x128x128, .f32⟩
  | .hbm, ⟨4, _⟩ => ⟨S1x16x128, .f32⟩
  | .hbm, ⟨5, _⟩ => ⟨S16384x10240, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S2048, .f32⟩
  | .hbm, ⟨52, _⟩ => ⟨S1x2048, .f32⟩
  | .hbm, ⟨53, _⟩ => ⟨S16384x2048, .f32⟩
  | .hbm, ⟨54, _⟩ => ⟨S16384x2048, .f32⟩
  | .hbm, ⟨55, _⟩ => ⟨S128x128x16x128, .f32⟩
  | .hbm, ⟨56, _⟩ => ⟨S16x128x128, .f32⟩
  | .hbm, ⟨57, _⟩ => ⟨S_, .f32⟩
  | .hbm, ⟨58, _⟩ => ⟨S128x128, .f32⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .f32⟩
  | .hbm, ⟨66, _⟩ => ⟨S128x128, .f32⟩
  | .hbm, ⟨67, _⟩ => ⟨S128x128, .f32⟩
  | .hbm, ⟨68, _⟩ => ⟨S1x128x128, .f32⟩
  | .hbm, ⟨69, _⟩ => ⟨S16x128x128, .f32⟩
  | .hbm, ⟨70, _⟩ => ⟨S16x128x128, .f32⟩
  | .hbm, ⟨71, _⟩ => ⟨S16x128x128x128, .f32⟩
  | .hbm, ⟨72, _⟩ => ⟨S128x128x16x128, .f32⟩
  | .hbm, ⟨73, _⟩ => ⟨S16x128, .f32⟩
  | .hbm, ⟨74, _⟩ => ⟨S128x16, .f32⟩
  | .hbm, ⟨75, _⟩ => ⟨S128x16x1, .f32⟩
  | .hbm, ⟨76, _⟩ => ⟨S1x128x16x1, .f32⟩
  | .hbm, ⟨77, _⟩ => ⟨S128x128x16x128, .f32⟩
  | .hbm, ⟨78, _⟩ => ⟨S128x128x16x128, .f32⟩
  | .hbm, ⟨79, _⟩ => ⟨S16384x2048, .f32⟩
  | .hbm, ⟨80, _⟩ => ⟨S16384x2048, .f32⟩
  | .hbm, ⟨81, _⟩ => ⟨S16384x2048, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_cst : Ref sig .tc := ⟨.hbm, 65, rfl⟩
abbrev main_call0_v5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel9.lean ====
abbrev S16384x2048 : Shape := ⟨2, ![16384, 2048]⟩
abbrev S2x2048 : Shape := ⟨2, ![2, 2048]⟩
abbrev S4x1x2048 : Shape := ⟨3, ![4, 1, 2048]⟩
abbrev S1x2048 : Shape := ⟨2, ![1, 2048]⟩
abbrev S2048 : Shape := ⟨1, ![2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S4x1x2048, .f32⟩
  | .hbm, ⟨3, _⟩ => ⟨S4x1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S16384x2048 : Shape := ⟨2, ![16384, 2048]⟩
abbrev S2x2048 : Shape := ⟨2, ![2, 2048]⟩
abbrev S4x1x2048 : Shape := ⟨3, ![4, 1, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S4x1x2048, .f32⟩
  | .hbm, ⟨3, _⟩ => ⟨S4x1x2048, .f32⟩
  | .hbm, ⟨4, _⟩ => ⟨S4x4096x2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S16384x2048, .f32⟩
  | .hbm, ⟨31, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel10.lean ====
abbrev S16384x2048 : Shape := ⟨2, ![16384, 2048]⟩
abbrev S2x2048 : Shape := ⟨2, ![2, 2048]⟩
abbrev S4x1x2048 : Shape := ⟨3, ![4, 1, 2048]⟩
abbrev S1x2048 : Shape := ⟨2, ![1, 2048]⟩
abbrev S2048 : Shape := ⟨1, ![2048]⟩
abbrev S2048x16384 : Shape := ⟨2, ![2048, 16384]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S4x1x2048, .f32⟩
  | .hbm, ⟨3, _⟩ => ⟨S4x1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16384x2048 : Shape := ⟨2, ![16384, 2048]⟩
abbrev S2x2048 : Shape := ⟨2, ![2, 2048]⟩
abbrev S4x1x2048 : Shape := ⟨3, ![4, 1, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x2048 : Shape := ⟨2, ![1, 2048]⟩
abbrev S2048 : Shape := ⟨1, ![2048]⟩
abbrev S1x1x2048 : Shape := ⟨3, ![1, 1, 2048]⟩
abbrev S2048x16384 : Shape := ⟨2, ![2048, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S4x1x2048, .f32⟩
  | .hbm, ⟨3, _⟩ => ⟨S4x1x2048, .f32⟩
  | .hbm, ⟨4, _⟩ => ⟨S4x4096x2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S16384x2048, .f32⟩
  | .hbm, ⟨31, _⟩ => ⟨S16384x2048, .bf16⟩
  | .hbm, ⟨32, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Qkv.lean ====
/-
  The stick-breaking branch's query, key and value projection: the kernel's output array is the reference's term of the argument arrays.
-/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Out

open Cert.Kernel2Ideal Cert.Kernel2Ideal.Gen

variable (m : (ℓ : Loc nD τ sig) → Buf (Elt Ideal) ℓ)

/-- What the reference computes from the layer's input and the projection's weights. -/
abbrev ref (h : FVec Ideal S16384x2048 .bf16) (w : FVec Ideal S1x2048x6144 .f32) : FVec Ideal S16384x6144 .bf16 :=
  truncf .bf16 (concatenate Cert.Reference2Ideal.S16384x6144 1
    [⟨Cert.Reference2Ideal.S16384x2048, mulf (extractStridedSlice Cert.Reference2Ideal.S16384x2048 ![0, 0]
        (Host.dotGeneral Cert.Reference2Ideal.dot_S16384x2048_S2048x6144_S16384x6144_1_0_0_1_n_n none
          (extf .f32 h Cert.Reference2Ideal.Gen.bitsLt_bf16_f32)
          (shapeCast _ w Cert.Reference2Ideal.Gen.shapeCasts_S1x2048x6144_S2048x6144))
        Cert.Reference2Ideal.Gen.slices_S16384x6144_S16384x2048_0_0)
        (broadcastInDim Cert.Reference2Ideal.S16384x2048 ![] Cert.Reference2Ideal.Gen.bcast_S_S16384x2048
          (constant Cert.Reference2Ideal.S_ .f32 0x3DB504F3#32))⟩,
      ⟨Cert.Reference2Ideal.S16384x4096, extractStridedSlice Cert.Reference2Ideal.S16384x4096 ![0, 2048]
        (Host.dotGeneral Cert.Reference2Ideal.dot_S16384x2048_S2048x6144_S16384x6144_1_0_0_1_n_n none
          (extf .f32 h Cert.Reference2Ideal.Gen.bitsLt_bf16_f32)
          (shapeCast _ w Cert.Reference2Ideal.Gen.shapeCasts_S1x2048x6144_S2048x6144))
        Cert.Reference2Ideal.Gen.slices_S16384x6144_S16384x4096_0_2048⟩]
    Cert.Reference2Ideal.Gen.concatenates_S16384x2048_S16384x4096_S16384x6144_d1) Cert.Reference2Ideal.Gen.bitsLt_bf16_f32

/-- The block each window reads or writes at a grid point. -/
theorem idx : ∀ t : Fin cfg0.N, win0_0.index t = ![t.val / 6, 0] ∧ win0_1.index t = ![0, t.val % 6]
    ∧ win0_2.index t = ![t.val / 6, t.val % 6] :=
  (by decide +kernel : ∀ t : Fin grid0.N, _)

/-- The weights as the kernel's blocks read them: prepared on the host before the kernel starts. -/
abbrev prep (w : FVec Ideal S1x2048x6144 .f32) : FVec Ideal S2048x6144 .bf16 :=
  truncf .bf16 (concatenate S2048x6144 1
        [⟨S2048x2048, mulf (extractStridedSlice S2048x2048 ![0, 0] (shapeCast S2048x6144 w
            shapeCasts_S1x2048x6144_S2048x6144) slices_S2048x6144_S2048x2048_0_0)
            (broadcastInDim S2048x2048 ![] bcast_S_S2048x2048 (constant S_ .f32 0x3DB504F3#32))⟩,
          ⟨S2048x4096, extractStridedSlice S2048x4096 ![0, 2048] (shapeCast S2048x6144 w
            shapeCasts_S1x2048x6144_S2048x6144) slices_S2048x6144_S2048x4096_0_2048⟩]
        concatenates_S2048x2048_S2048x4096_S2048x6144_d1) bitsLt_bf16_f32

theorem weights (c : Dev nD) : V m c main_v6 = prep (m ((c : Thread nD τ).loc main_arg1)) := by
  unfold V
  after_results <;> rfl

/-- The block of weights a grid point reads. -/
theorem wblk (c : Dev nD) (t : Fin cfg0.N) :
    iblk m c 1 t = fun i : S2048x1024.Idx => prep (m ((c : Thread nD τ).loc main_arg1)) (((cfg0.win 1).blk t).view.emb i) := by
  funext i
  exact congrFun (weights m c) _

/-- A nonnegative real factor moves inside a sum of products. -/
theorem sum_mul_scale {n : ℕ} (a w : Fin n → EReal) {s : EReal} (h0 : 0 ≤ s) (h1 : s ≠ ⊤) :
    (∑ x, a x * w x) * s = ∑ x, a x * (w x * s) := by
  have h : ∀ f : Fin n → EReal, (∑ x, f x) * s = ∑ x, f x * s := fun f =>
    map_sum ({ toFun := (· * s), map_zero' := zero_mul s,
               map_add' := fun y z => EReal.right_distrib_of_nonneg_of_ne_top h0 h1 y z } : EReal →+ EReal) f _
  rw [h]
  exact Finset.sum_congr rfl fun x _ => mul_assoc ..

/-- The scale of the queries, `128 ^ (-1/2)` as a 32-bit float, is a nonnegative real. -/
theorem scale_real : ∃ r : ℝ, 0 ≤ r ∧ Ideal.ofBits .f32 0x3DB504F3#32 = (r : EReal) := by
  refine ⟨11863283 * 2 ^ (-27 : ℤ), by positivity, ?_⟩
  simp [Ideal.ofBits, Ideal.ieee, -EReal.coe_mul]

theorem scale_nonneg : 0 ≤ Ideal.ofBits .f32 0x3DB504F3#32 := by
  obtain ⟨r, h, e⟩ := scale_real
  rw [e]; exact_mod_cast h

theorem scale_ne_top : Ideal.ofBits .f32 0x3DB504F3#32 ≠ ⊤ := by
  obtain ⟨r, h, e⟩ := scale_real
  rw [e]; exact EReal.coe_ne_top r

/-- One element of the block a grid point writes is the reference's element there. -/
theorem point (c : Dev nD) (t : Fin cfg0.N) (y : S1024x1024.Idx) :
    k0_pay1 (iblk m c 0 t) (iblk m c 1 t) y
      = ref (m ((c : Thread nD τ).loc main_arg0)) (m ((c : Thread nD τ).loc main_arg1)) (((cfg0.win 2).blk t).view.emb y) := by
  rw [wblk]
  pointwise [k0_pay1, ref, prep]
  blk_simp [idx t]
  by_cases h : t.val % 6 * 1024 + (y 1).val < 2048 <;> simp only [h, ↓reduceDIte]
  · refine Eq.trans ?_ (sum_mul_scale _ _ scale_nonneg scale_ne_top).symm
    blk_point [iblk, V, idx t]
  · blk_point [iblk, V, idx t]

/-- The kernel's output array after the run is the reference's array. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel2Ideal.Out

end
-- ==== Proof.In0.lean ====
/-
  The first layer's input projection, the columns z, xBC, u and v: the kernel's output array is the reference's term of the argument arrays.
-/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Out

open Cert.Kernel3Ideal Cert.Kernel3Ideal.Gen

variable (m : (ℓ : Loc nD τ sig) → Buf (Elt Ideal) ℓ)

/-- What the reference computes from the layer's input and the projection's weights. -/
abbrev ref (h : FVec Ideal S16384x2048 .bf16) (w : FVec Ideal S1x2048x10272 .f32) : FVec Ideal S16384x10240 .bf16 :=
  truncf .bf16 (concatenate Cert.Reference3Ideal.S16384x10240 1
    [⟨Cert.Reference3Ideal.S16384x6144, extractStridedSlice Cert.Reference3Ideal.S16384x6144 ![0, 0]
        (Host.dotGeneral Cert.Reference3Ideal.dot_S16384x2048_S2048x10272_S16384x10272_1_0_0_1_n_n none
          (extf .f32 h Cert.Reference3Ideal.Gen.bitsLt_bf16_f32)
          (shapeCast _ w Cert.Reference3Ideal.Gen.shapeCasts_S1x2048x10272_S2048x10272))
        Cert.Reference3Ideal.Gen.slices_S16384x10272_S16384x6144_0_0⟩,
      ⟨Cert.Reference3Ideal.S16384x4096, extractStridedSlice Cert.Reference3Ideal.S16384x4096 ![0, 6176]
        (Host.dotGeneral Cert.Reference3Ideal.dot_S16384x2048_S2048x10272_S16384x10272_1_0_0_1_n_n none
          (extf .f32 h Cert.Reference3Ideal.Gen.bitsLt_bf16_f32)
          (shapeCast _ w Cert.Reference3Ideal.Gen.shapeCasts_S1x2048x10272_S2048x10272))
        Cert.Reference3Ideal.Gen.slices_S16384x10272_S16384x4096_0_6176⟩]
    Cert.Reference3Ideal.Gen.concatenates_S16384x6144_S16384x4096_S16384x10240_d1) Cert.Reference3Ideal.Gen.bitsLt_bf16_f32

/-- The block each window reads or writes at a grid point. -/
theorem idx : ∀ t : Fin cfg0.N, win0_0.index t = ![t.val / 10, 0] ∧ win0_1.index t = ![0, t.val % 10]
    ∧ win0_2.index t = ![t.val / 10, t.val % 10] :=
  (by decide +kernel : ∀ t : Fin grid0.N, _)

/-- The weights as the kernel's blocks read them: prepared on the host before the kernel starts. -/
abbrev prep (w : FVec Ideal S1x2048x10272 .f32) : FVec Ideal S2048x10240 .bf16 :=
  truncf .bf16 (concatenate S2048x10240 1
        [⟨S2048x6144, extractStridedSlice S2048x6144 ![0, 0] (shapeCast S2048x10272 w
            shapeCasts_S1x2048x10272_S2048x10272) slices_S2048x10272_S2048x6144_0_0⟩,
          ⟨S2048x4096, extractStridedSlice S2048x4096 ![0, 6176] (shapeCast S2048x10272 w
            shapeCasts_S1x2048x10272_S2048x10272) slices_S2048x10272_S2048x4096_0_6176⟩]
        concatenates_S2048x6144_S2048x4096_S2048x10240_d1) bitsLt_bf16_f32

theorem weights (c : Dev nD) : V m c main_v4 = prep (m ((c : Thread nD τ).loc main_arg1)) := by
  unfold V
  after_results <;> rfl

/-- The block of weights a grid point reads. -/
theorem wblk (c : Dev nD) (t : Fin cfg0.N) :
    iblk m c 1 t = fun i : S2048x1024.Idx => prep (m ((c : Thread nD τ).loc main_arg1)) (((cfg0.win 1).blk t).view.emb i) := by
  funext i
  exact congrFun (weights m c) _

/-- One element of the block a grid point writes is the reference's element there. -/
theorem point (c : Dev nD) (t : Fin cfg0.N) (y : S1024x1024.Idx) :
    k0_pay1 (iblk m c 0 t) (iblk m c 1 t) y
      = ref (m ((c : Thread nD τ).loc main_arg0)) (m ((c : Thread nD τ).loc main_arg1)) (((cfg0.win 2).blk t).view.emb y) := by
  rw [wblk]
  pointwise [k0_pay1, ref, prep]
  blk_simp [idx t]
  by_cases h : t.val % 10 * 1024 + (y 1).val < 6144 <;> simp only [h, ↓reduceDIte]
  · blk_point [iblk, V, idx t]

  · blk_point [iblk, V, idx t]

/-- The kernel's output array after the run is the reference's array. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel3Ideal.Out

end
-- ==== Proof.Out0.lean ====
/-
  The first layer's output projection: the kernel's output array is the reference's term of the argument arrays.
-/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen

variable (m : (ℓ : Loc nD τ sig) → Buf (Elt Ideal) ℓ)

/-- What the reference computes from the two branches' values, the projection's weights, the residual and the gate. -/
abbrev ref (h h' : FVec Ideal S16384x2048 .bf16) (w : FVec Ideal S1x4096x2048 .f32) (x : FVec Ideal S16384x2048 .f32)
    (g : FVec Ideal S4x1x2048 .f32) : FVec Ideal S16384x2048 .f32 :=
  shapeCast _ (addf (shapeCast _ x Cert.Reference4Ideal.Gen.shapeCasts_S16384x2048_S4x4096x2048)
    (mulf (broadcastInDim Cert.Reference4Ideal.S4x4096x2048 ![0, 1, 2] Cert.Reference4Ideal.Gen.bcast_S4x1x2048_S4x4096x2048_0_1_2 g)
      (shapeCast _ (Host.dotGeneral Cert.Reference4Ideal.dot_S16384x4096_S4096x2048_S16384x2048_1_0_0_1_n_n none
        (extf .f32 (concatenate Cert.Reference4Ideal.S16384x4096 1 [⟨Cert.Reference4Ideal.S16384x2048, h⟩, ⟨Cert.Reference4Ideal.S16384x2048, h'⟩]
          Cert.Reference4Ideal.Gen.concatenates_S16384x2048_S16384x2048_S16384x4096_d1) Cert.Reference4Ideal.Gen.bitsLt_bf16_f32)
        (shapeCast _ w Cert.Reference4Ideal.Gen.shapeCasts_S1x4096x2048_S4096x2048))
        Cert.Reference4Ideal.Gen.shapeCasts_S16384x2048_S4x4096x2048)))
    Cert.Reference4Ideal.Gen.shapeCasts_S4x4096x2048_S16384x2048

/-- The block each window reads or writes at a grid point. -/
theorem idx : ∀ t : Fin cfg0.N, win0_0.index t = ![t.val / 4, 0] ∧ win0_1.index t = ![t.val / 4, 0]
    ∧ win0_2.index t = ![0, t.val % 4] ∧ win0_3.index t = ![0, t.val % 4]
    ∧ win0_4.index t = ![t.val / 4, t.val % 4] ∧ win0_5.index t = ![t.val / 16, 0, t.val % 4]
    ∧ win0_6.index t = ![t.val / 4, t.val % 4] :=
  (by decide +kernel : ∀ t : Fin grid0.N, _)

/-- One element of the block a grid point writes is the reference's element there. -/
theorem point (c : Dev nD) (t : Fin cfg0.N) (y : S1024x512.Idx) :
    k0_pay1 (iblk m c 0 t) (iblk m c 2 t) (iblk m c 1 t) (iblk m c 3 t) (iblk m c 4 t) (iblk m c 5 t) y
      = ref (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, ref]
  blk_point [iblk, V, idx t]

/-- The kernel's output array after the run is the reference's array. -/
theorem final (c : Dev nD) : (dats m 0 c).arrAt 6 (cfgs 0).N
    = ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point m c t y

end Cert.Kernel4Ideal.Out

end
-- ==== Proof.SbOut.lean ====
/-
  The stick-breaking branch's output projection: the kernel's output array is the reference's term of the argument arrays.
-/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Out

open Cert.Kernel5Ideal Cert.Kernel5Ideal.Gen

variable (m : (ℓ : Loc nD τ sig) → Buf (Elt Ideal) ℓ)

/-- What the reference computes from the branch's values, the projection's weights, the residual and the gate. -/
abbrev ref (h : FVec Ideal S16384x2048 .bf16) (w : FVec Ideal S1x2048x2048 .f32) (x : FVec Ideal S16384x2048 .f32)
    (g : FVec Ideal S4x1x2048 .f32) : FVec Ideal S16384x2048 .f32 :=
  shapeCast _ (addf (shapeCast _ x Cert.Reference5Ideal.Gen.shapeCasts_S16384x2048_S4x4096x2048)
    (mulf (broadcastInDim Cert.Reference5Ideal.S4x4096x2048 ![0, 1, 2] Cert.Reference5Ideal.Gen.bcast_S4x1x2048_S4x4096x2048_0_1_2 g)
      (shapeCast _ (Host.dotGeneral Cert.Reference5Ideal.dot_S16384x2048_S2048x2048_S16384x2048_1_0_0_1_n_n none
        (extf .f32 h Cert.Reference5Ideal.Gen.bitsLt_bf16_f32)
        (shapeCast _ w Cert.Reference5Ideal.Gen.shapeCasts_S1x2048x2048_S2048x2048))
        Cert.Reference5Ideal.Gen.shapeCasts_S16384x2048_S4x4096x2048)))
    Cert.Reference5Ideal.Gen.shapeCasts_S4x4096x2048_S16384x2048

/-- The block each window reads or writes at a grid point. -/
theorem idx : ∀ t : Fin cfg0.N, win0_0.index t = ![t.val / 4, 0] ∧ win0_1.index t = ![0, t.val % 4]
    ∧ win0_2.index t = ![t.val / 4, t.val % 4] ∧ win0_3.index t = ![t.val / 16, 0, t.val % 4]
    ∧ win0_4.index t = ![t.val / 4, t.val % 4] :=
  (by decide +kernel : ∀ t : Fin grid0.N, _)

/-- One element of the block a grid point writes is the reference's element there. -/
theorem point (c : Dev nD) (t : Fin cfg0.N) (y : S1024x512.Idx) :
    k0_pay1 (iblk m c 0 t) (iblk m c 1 t) (iblk m c 2 t) (iblk m c 3 t) y
      = ref (m ((c : Thread nD τ).loc main_arg0)) (m ((c : Thread nD τ).loc main_arg1))
          (m ((c : Thread nD τ).loc main_arg2)) (m ((c : Thread nD τ).loc main_arg3)) (((cfg0.win 4).blk t).view.emb y) := by
  pointwise [k0_pay1, ref]
  blk_point [iblk, V, idx t]

/-- The kernel's output array after the run is the reference's array. -/
theorem final (c : Dev nD) : (dats m 0 c).arrAt 4 (cfgs 0).N
    = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.Kernel5Ideal.Out

end
-- ==== Proof.RowMath.lean ====
/-
  One row of stick-breaking attention, as sums over the key positions `0 … 4095`.

  A row is a query at position `t`. `l j` is its logit against key `j`, `v j` one coordinate of value `j`. Only the keys
  `j < t` count. `stay x` is `log (1 - sigmoid x)`, the logarithm of the part of the stick that a key with logit `x` leaves.
  The kernel walks the keys from the last to the first, 256 at a time, and carries two numbers: the sum of `stay` over the keys
  walked (`runFrom`), and the weighted sum of their values (`accFrom`). The lemmas say what one block of 256 keys adds to each.
-/
module

public import Idealize.ShloMosaic.PureOps.Ideal.Laws
public import Mathlib.Algebra.BigOperators.Intervals

@[expose] public section

noncomputable section

namespace Cert.RowMath

open Idealize.ShloMosaic
open scoped BigOperators

/-- `log (1 - sigmoid x)`, in the stable form the kernel computes: `-(max x 0 + log (1 + exp (-|x|)))`. -/
def stay (x : EReal) : EReal := 0 - (max x 0 + Ideal.log (1 + Ideal.exp (0 - max x (-x))))

/-- `stay` of the logit of key `j`, or 0 for a key the row does not see. -/
def lm (l : ℕ → EReal) (t j : ℕ) : EReal := if j < t then stay (l j) else 0

/-- The sum of `lm` over the keys from `J` on. -/
def runFrom (l : ℕ → EReal) (t J : ℕ) : EReal := ∑ j ∈ Finset.Ico J 4096, lm l t j

/-- The weight of key `j`: its logit plus the `stay` of itself and of every later key, exponentiated. -/
def wt (l : ℕ → EReal) (t j : ℕ) : EReal := if j < t then Ideal.exp (l j + runFrom l t j) else 0

/-- The weighted sum of the values from key `J` on. -/
def accFrom (l v : ℕ → EReal) (t J : ℕ) : EReal := ∑ j ∈ Finset.Ico J 4096, wt l t j * v j

variable {l v : ℕ → EReal} {t J : ℕ}

theorem runFrom_of_le (h : t ≤ J) : runFrom l t J = 0 :=
  Finset.sum_eq_zero fun j hj => if_neg (by have := (Finset.mem_Ico.mp hj).1; omega)

theorem accFrom_of_le (h : t ≤ J) : accFrom l v t J = 0 :=
  Finset.sum_eq_zero fun j hj => by
    rw [wt, if_neg (by have := (Finset.mem_Ico.mp hj).1; omega), zero_mul]

/-- A sum over the keys from `J` on is the sum over the keys from `J + n` on plus the `n` keys before them. -/
theorem sum_block (f : ℕ → EReal) {n : ℕ} (h : J + n ≤ 4096) :
    ∑ j ∈ Finset.Ico J 4096, f j = (∑ j ∈ Finset.Ico (J + n) 4096, f j) + ∑ c : Fin n, f (J + c.val) := by
  rw [← Finset.sum_Ico_consecutive f (Nat.le_add_right J n) h, add_comm]
  congr 1
  rw [Finset.sum_Ico_eq_sum_range, Nat.add_sub_cancel_left, Finset.sum_range]

theorem runFrom_step (h : J + 256 ≤ 4096) :
    runFrom l t J = runFrom l t (J + 256) + ∑ c : Fin 256, lm l t (J + c.val) := sum_block _ h

theorem accFrom_step (h : J + 256 ≤ 4096) :
    accFrom l v t J = accFrom l v t (J + 256) + ∑ c : Fin 256, wt l t (J + c.val) * v (J + c.val) := sum_block _ h

/-- Inside a block: the sum from the block's key `c` on is a 0/1-weighted sum over the block, plus the sum past the block. -/
theorem runFrom_inner (h : J + 256 ≤ 4096) (c : Fin 256) :
    runFrom l t (J + c.val)
      = (∑ r : Fin 256, lm l t (J + r.val) * (if c.val ≤ r.val then 1 else 0)) + runFrom l t (J + 256) := by
  have hc := c.isLt
  unfold runFrom
  rw [← Finset.sum_Ico_consecutive (lm l t) (show J + c.val ≤ J + 256 by omega) h]
  congr 1
  rw [Finset.sum_congr rfl fun (r : Fin 256) _ => mul_ite (c.val ≤ r.val) (lm l t (J + r.val)) 1 0]
  simp only [mul_one, mul_zero]
  rw [← Finset.sum_range fun r : ℕ => if c.val ≤ r then lm l t (J + r) else 0, ← Finset.sum_filter]
  rw [Finset.sum_Ico_eq_sum_range (m := J + c.val)]
  have e : (Finset.range 256).filter (fun r => c.val ≤ r) = Finset.Ico c.val 256 := by
    ext r; simp only [Finset.mem_filter, Finset.mem_range, Finset.mem_Ico]; omega
  rw [e, Finset.sum_Ico_eq_sum_range (m := c.val)]
  rw [show J + 256 - (J + c.val) = 256 - c.val by omega]
  exact Finset.sum_congr rfl fun r _ => by rw [Nat.add_assoc]

end Cert.RowMath

end
-- ==== Proof.AttnCumsum.lean ====
/-
  The reference's reversed running sum along the last axis, over the extended reals: element `j` is the sum of the elements
  from `j` on.
-/
module

public import proofs.«01_k».proof.Proof.Gen.ReferenceIdeal.Read
public import proofs.«01_k».proof.Proof.RowMath
public import Idealize.ShloMosaic.Lib.Pointwise

@[expose] public section

set_option maxRecDepth 16384

noncomputable section

namespace Cert.ReferenceIdeal.Attn

open Idealize.ShloMosaic
open Cert.ReferenceIdeal Cert.ReferenceIdeal.Gen Cert.ReferenceIdeal.Read
open scoped BigOperators

/-- Adding a list of numbers one by one is adding their sum. -/
theorem foldl_add_sum {n : ℕ} (g : Fin n → EReal) (v : EReal) :
    (List.finRange n).foldl (fun r k => r + g k) v = v + ∑ k : Fin n, g k := by
  rw [← List.sum_ofFn, List.ofFn_eq_map]
  generalize List.finRange n = L
  induction L generalizing v with
  | nil => simp
  | cons a L ih => simp only [List.foldl_cons, List.map_cons, List.sum_cons, ih, add_assoc]

/-- The window's shape: one row of 4096. -/
abbrev Win : Shape := ⟨4, ![1, 1, 1, 4096]⟩

theorem win_numel : Win.numel = 4096 := by decide

theorem win_symm (n : Fin Win.numel) (a : Fin 4) :
    (Win.rowMajor.symm n a).val = if a = 3 then n.val else 0 := by
  have h := congrArg Fin.val (Win.rowMajor.apply_symm_apply n)
  rw [Shape.rowMajor_val_four] at h
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  change (((Win.rowMajor.symm n 0).val * 1 + (Win.rowMajor.symm n 1).val) * 1 + (Win.rowMajor.symm n 2).val) * 4096
    + (Win.rowMajor.symm n 3).val = n.val at h
  match a with
  | 0 => simp; omega
  | 1 => simp; omega
  | 2 => simp; omega
  | 3 => simp; omega

theorem revsum (x : FVec Ideal S4x16x4096x4096 .f32) (init : FVec Ideal S_ .f32) (hi : ∀ i, init i = (0 : EReal))
    (h : S4x16x4096x4096.ReduceWindows ![1, 1, 1, 4096] ![1, 1, 1, 1] ![0, 0, 0, 0] ![0, 0, 0, 4095] S4x16x4096x4096)
    (hu : 0 < S_.numel) (b : Fin 4) (g : Fin 16) (t j : Fin 4096) :
    Host.reduceWindowAdd ![1, 1, 1, 4096] ![1, 1, 1, 1] ![0, 0, 0, 0] ![0, 0, 0, 4095] x init h hu (ix4 b g t j)
      = ∑ p ∈ Finset.Ico j.val 4096, (if hp : p < 4096 then (x (ix4 b g t ⟨p, hp⟩) : EReal) else 0) := by
  unfold Host.reduceWindowAdd
  rw [Ideal.hostReduceWindowAdd_def]
  unfold Ideal.hostReduceWindowAdd Host.reduceWindow
  dsimp only
  refine (foldl_add_sum _ _).trans ?_
  rw [hi, zero_add]
  let G : ℕ → EReal := fun p => if hp : p < 4096 then (x (ix4 b g t ⟨p, hp⟩) : EReal) else 0
  have hb : b.val < 4 := b.isLt
  have hg : g.val < 16 := g.isLt
  have ht : t.val < 4096 := t.isLt
  refine Eq.trans (b := ∑ n : Fin Win.numel, G (j.val + n.val)) (Finset.sum_congr rfl fun n _ => ?_) ?_
  · have w0 : (Win.rowMajor.symm n 0).val = 0 := win_symm n 0
    have w1 : (Win.rowMajor.symm n 1).val = 0 := win_symm n 1
    have w2 : (Win.rowMajor.symm n 2).val = 0 := win_symm n 2
    have w3 : (Win.rowMajor.symm n 3).val = n.val := win_symm n 3
    by_cases hp : j.val + n.val < 4096
    · refine (dif_pos ?_).trans ?_
      · intro a
        match a with
        | 0 => exact ⟨Nat.zero_le _, show b.val * 1 + (Win.rowMajor.symm n 0).val - 0 < 4 by omega⟩
        | 1 => exact ⟨Nat.zero_le _, show g.val * 1 + (Win.rowMajor.symm n 1).val - 0 < 16 by omega⟩
        | 2 => exact ⟨Nat.zero_le _, show t.val * 1 + (Win.rowMajor.symm n 2).val - 0 < 4096 by omega⟩
        | 3 => exact ⟨Nat.zero_le _, show j.val * 1 + (Win.rowMajor.symm n 3).val - 0 < 4096 by omega⟩
      · refine Eq.trans ?_ (dif_pos hp).symm
        refine congrArg x (funext fun a => Fin.ext ?_)
        match a with
        | 0 => show b.val * 1 + (Win.rowMajor.symm n 0).val - 0 = b.val; omega
        | 1 => show g.val * 1 + (Win.rowMajor.symm n 1).val - 0 = g.val; omega
        | 2 => show t.val * 1 + (Win.rowMajor.symm n 2).val - 0 = t.val; omega
        | 3 => show j.val * 1 + (Win.rowMajor.symm n 3).val - 0 = j.val + n.val; omega
    · have hG : G (j.val + n.val) = 0 := dif_neg hp
      refine (dif_neg ?_).trans hG.symm
      intro hin
      have h3 : j.val * 1 + (Win.rowMajor.symm n 3).val - 0 < 4096 := (hin 3).2
      omega
  · rw [Fin.sum_univ_eq_sum_range (fun n => G (j.val + n)) Win.numel, win_numel, Finset.sum_Ico_eq_sum_range]
    refine (Finset.sum_subset (Finset.range_mono (Nat.sub_le _ _)) fun p _ hp => ?_).symm
    exact dif_neg (by rw [Finset.mem_range] at hp; omega)

end Cert.ReferenceIdeal.Attn

end
-- ==== Proof.RowReal.lean ====
/-
  One row: the reference's weight of a key, which takes the sum of `stay` over the keys from it on and subtracts
  its own, is the weight of `RowMath.lean`.
-/
module

public import proofs.«01_k».proof.Proof.RowMath

@[expose] public section

noncomputable section

namespace Cert.RowMath

open Idealize.ShloMosaic
open scoped BigOperators

/-- `stay` of a real number is the real number one expects. -/
theorem stay_coe (x : ℝ) : stay (x : EReal) = ((-(max x 0 + Real.log (1 + Real.exp (-|x|))) : ℝ) : EReal) := by
  have h1 : max (x : EReal) (-(x : EReal)) = ((|x| : ℝ) : EReal) := by
    rw [← EReal.coe_neg]; exact (EReal.coe_strictMono.monotone.map_max).symm
  have h2 : (0 : EReal) - ((|x| : ℝ) : EReal) = ((-|x| : ℝ) : EReal) := by
    rw [zero_sub, EReal.coe_neg]
  have h3 : Ideal.exp ((-|x| : ℝ) : EReal) = ((Real.exp (-|x|) : ℝ) : EReal) := rfl
  have h4 : (1 : EReal) + ((Real.exp (-|x|) : ℝ) : EReal) = ((1 + Real.exp (-|x|) : ℝ) : EReal) := by
    rw [EReal.coe_add, EReal.coe_one]
  have h5 : Ideal.log ((1 + Real.exp (-|x|) : ℝ) : EReal) = ((Real.log (1 + Real.exp (-|x|)) : ℝ) : EReal) :=
    if_neg (not_le.mpr (by positivity))
  have h6 : max (x : EReal) 0 = ((max x 0 : ℝ) : EReal) := by
    rw [← EReal.coe_zero]; exact (EReal.coe_strictMono.monotone.map_max).symm
  unfold stay
  rw [h1, h2, h3, h4, h5, h6, ← EReal.coe_add, zero_sub, ← EReal.coe_neg]

/-- `log (sigmoid x) = x + log (1 - sigmoid x)`, for a real number. -/
theorem stay_neg (x : ℝ) : stay (-(x : EReal)) = ((x + -(max x 0 + Real.log (1 + Real.exp (-|x|))) : ℝ) : EReal) := by
  rw [← EReal.coe_neg, stay_coe, abs_neg]
  congr 1
  rcases le_total x 0 with h | h
  · rw [max_eq_left (by linarith), max_eq_right h]; ring
  · rw [max_eq_right (by linarith), max_eq_left h]; ring

variable {l : ℕ → EReal} {t : ℕ}

theorem stay_top : stay (⊤ : EReal) = ⊥ := by
  have h : ∀ y : EReal, y ≠ ⊥ → (0 : EReal) - (⊤ + y) = ⊥ := fun y hy => by
    rw [EReal.top_add_of_ne_bot hy, zero_sub, EReal.neg_top]
  have h2 : Ideal.exp ((0 : EReal) - max ⊤ (-⊤)) = 0 := by
    rw [max_eq_left le_top, zero_sub, EReal.neg_top]; rfl
  unfold stay
  rw [h2, max_eq_left le_top]
  refine h _ ?_
  have h3 : Ideal.log ((1 : EReal) + 0) = ((Real.log 1 : ℝ) : EReal) := by
    rw [add_zero]; exact if_neg (not_le.mpr one_pos)
  rw [h3]
  exact EReal.coe_ne_bot _

/-- A sum with a term of minus infinity is minus infinity. -/
theorem runFrom_bot {j : ℕ} (hj : j < 4096) (h : lm l t j = ⊥) : runFrom l t j = ⊥ := by
  unfold runFrom
  rw [Finset.sum_eq_sum_Ico_succ_bot hj, h, EReal.bot_add]

/-- The reference's exponent is the kernel's, at every logit: a real one, plus infinity, where both are minus infinity because the
    running sum is, and minus infinity, where both are minus infinity because the logit's own term is. -/
theorem exponent_eq {j : ℕ} (hj : j < t) (hj' : j < 4096) :
    stay (-l j) + (runFrom l t j - lm l t j) = l j + runFrom l t j := by
  have hlm : lm l t j = stay (l j) := if_pos hj
  have hb : l j = ⊤ → runFrom l t j = ⊥ := fun h => runFrom_bot hj' (by rw [hlm, h, stay_top])
  rw [hlm]
  revert hb
  generalize runFrom l t j = R
  induction l j with
  | bot => intro _; rw [EReal.neg_bot, stay_top, EReal.bot_add, EReal.bot_add]
  | top => intro hb; rw [hb rfl, EReal.bot_sub, EReal.add_bot, EReal.add_bot]
  | coe x =>
    intro _
    rw [stay_neg, stay_coe]
    induction R with
    | bot => rw [EReal.bot_sub, EReal.add_bot, EReal.add_bot]
    | top => rw [EReal.top_sub_coe, EReal.coe_add_top, EReal.coe_add_top]
    | coe R =>
      rw [← EReal.coe_sub, ← EReal.coe_add, ← EReal.coe_add]
      congr 1
      ring

end Cert.RowMath

end
-- ==== Proof.AttnStep.lean ====
/-
  What the attention kernel computes on one strip of 128 query rows and one block of 256 keys, as one function of the strip's
  queries, the block's keys and values, and the two carried arrays; and the same read at an index over the extended reals.
-/
module

public import proofs.«01_k».proof.Proof.Gen.KernelIdeal.Skeleton
public import proofs.«01_k».proof.Proof.RowMath
public import Idealize.ShloMosaic.Lib.Pointwise

@[expose] public section

set_option maxRecDepth 16384

noncomputable section

namespace Cert.KernelIdeal.Attn

open Idealize.ShloMosaic Idealize.SL.Sem
open Cert.KernelIdeal Cert.KernelIdeal.Gen
open scoped BigOperators

variable {F : FTy → Type} [FloatOps F]

/-- The logits of a strip's queries against a block's keys. -/
def logits (q : Vec F S128x128 .bf16) (k : Vec F S256x128 .bf16) : FVec F S128x256 .f32 :=
  matmul dot_S128x128_S256x128_S128x256_1_1_0_0_n_n none q k (constant S128x256 .f32 0x00000000#32)

/-- The array of zeros. -/
def zeros : FVec F S128x256 .f32 := broadcast S128x256 (Scalar.ofBits .f32 0x00000000#32)

/-- `log (1 - sigmoid)` of an array of logits. -/
def log1m (l : FVec F S128x256 .f32) : FVec F S128x256 .f32 :=
  subf zeros (addf (maximumf l zeros)
    (log (addf (broadcast S128x256 (Scalar.ofBits .f32 0x3F800000#32)) (exp (subf zeros (absf l))))))

/-- A row's carried sum plus the row's sum over the block. -/
def addRow (run : FVec F S128x1 .f32) (lm : FVec F S128x256 .f32) : FVec F S128x1 .f32 :=
  addf run (shapeCast S128x1 (multiReduction .add [1] S128 lm 0x00000000#32 reduces_S128x256_S128 (.inl rfl) rfl)
    shapeCasts_S128_S128x1)

/-- The weights: logit, plus the sum from the key to the block's end, plus the carried sum, exponentiated. -/
def weight (after : FVec F S256x256 .bf16) (l lm : FVec F S128x256 .f32) (run : FVec F S128x1 .f32) : FVec F S128x256 .f32 :=
  exp (addf (addf l (matmul dot_S128x256_S256x256_S128x256_1_0_0_1_n_n none (truncf .bf16 lm bitsLt_bf16_f32) after
    (constant S128x256 .f32 0x00000000#32))) (broadcastTo S128x256 run broadcasts_S128x1_S128x256))

/-- The carried weighted sum plus the block's. -/
def accum (acc : FVec F S128x128 .f32) (w : FVec F S128x256 .f32) (v : Vec F S256x128 .bf16) : FVec F S128x128 .f32 :=
  addf acc (matmul dot_S128x256_S256x128_S128x128_1_0_0_1_n_n none (truncf .bf16 w bitsLt_bf16_f32) v
    (constant S128x128 .f32 0x00000000#32))

/-- One block of keys that the whole strip sees: the two carried arrays after it. -/
def step (after : FVec F S256x256 .bf16) (q : Vec F S128x128 .bf16) (k v : Vec F S256x128 .bf16)
    (s : FVec F S128x128 .f32 × FVec F S128x1 .f32) : FVec F S128x128 .f32 × FVec F S128x1 .f32 :=
  (accum s.1 (weight after (logits q k) (log1m (logits q k)) s.2) v, addRow s.2 (log1m (logits q k)))

/-- One block of keys that the strip sees through a mask: the two carried arrays after it. -/
def stepM (after : FVec F S256x256 .bf16) (msk : IVec S128x256 1) (q : Vec F S128x128 .bf16) (k v : Vec F S256x128 .bf16)
    (s : FVec F S128x128 .f32 × FVec F S128x1 .f32) : FVec F S128x128 .f32 × FVec F S128x1 .f32 :=
  (accum s.1 (select msk (weight after (logits q k) (select msk (log1m (logits q k)) zeros) s.2) zeros) v,
    addRow s.2 (select msk (log1m (logits q k)) zeros))

/-! ## Read at an index -/

/-- A small natural number as a 32-bit word reads back as itself. -/
theorem toInt_small {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

theorem after_apply (r c : Fin 256) :
    (k0_pay115 (F := Ideal)) (ix2 r c) = if c.val ≤ r.val then (1 : EReal) else 0 := by
  pointwise [k0_pay115]
  have h : IntOp.cmpi CmpIPredicate.sge (BitVec.ofNat 32 r.val) (BitVec.ofNat 32 c.val)
      = BitVec.ofBool (decide (c.val ≤ r.val)) := by
    rw [IntOp.cmpi]
    simp only [BitVec.sle_eq_decide]
    rw [toInt_small (by omega), toInt_small (by omega)]
    simp
  rw [h]
  by_cases hc : c.val ≤ r.val <;> simp [hc, Scalar.select]

theorem logits_apply (q : Vec Ideal S128x128 .bf16) (k : Vec Ideal S256x128 .bf16) (r : Fin 128) (c : Fin 256) :
    logits q k (ix2 r c) = ∑ e : Fin 128, (q (ix2 r e) : EReal) * (k (ix2 c e) : EReal) := by
  pointwise [logits]

theorem log1m_apply (l : FVec Ideal S128x256 .f32) (r : Fin 128) (c : Fin 256) :
    log1m l (ix2 r c) = RowMath.stay (l (ix2 r c)) := by
  unfold RowMath.stay
  pointwise [log1m, zeros]
  rfl

theorem addRow_apply (run : FVec Ideal S128x1 .f32) (lm : FVec Ideal S128x256 .f32) (r : Fin 128) :
    addRow run lm (ix2 r 0) = (run (ix2 r 0) : EReal) + ∑ c : Fin 256, (lm (ix2 r c) : EReal) := by
  pointwise [addRow]

theorem weight_apply (l lm : FVec Ideal S128x256 .f32) (run : FVec Ideal S128x1 .f32) (r : Fin 128) (c : Fin 256) :
    weight (F := Ideal) k0_pay115 l lm run (ix2 r c)
      = Ideal.exp ((l (ix2 r c) : EReal)
          + (∑ x : Fin 256, (lm (ix2 r x) : EReal) * (if c.val ≤ x.val then 1 else 0)) + (run (ix2 r 0) : EReal)) := by
  pointwise [weight]
  simp only [after_apply]

theorem accum_apply (acc : FVec Ideal S128x128 .f32) (w : FVec Ideal S128x256 .f32) (v : Vec Ideal S256x128 .bf16) (r d : Fin 128) :
    accum acc w v (ix2 r d) = (acc (ix2 r d) : EReal) + ∑ c : Fin 256, (w (ix2 r c) : EReal) * (v (ix2 c d) : EReal) := by
  pointwise [accum]

end Cert.KernelIdeal.Attn

end
-- ==== Proof.AttnTrip.lean ====
/-
  One trip of the attention kernel's loop over earlier keys: for each of the four strips of 128 query rows, two steps of
  `AttnStep.lean`, on the 256 keys just before the ones walked so far and on the 256 keys before those.
-/
module

public import proofs.«01_k».proof.Proof.Gen.KernelIdeal.Frame
public import proofs.«01_k».proof.Proof.AttnStep

@[expose] public section

set_option maxRecDepth 16384

noncomputable section

namespace Cert.KernelIdeal.Attn

open Idealize.ShloMosaic Idealize.SL.Sem
open Cert.KernelIdeal Cert.KernelIdeal.Gen

variable {F : FTy → Type} [FloatOps F]

/-- The eight arrays the loop carries: for each strip the weighted sum and the row sum. -/
abbrev Carry (F : FTy → Type) : Type :=
  FVec F S128x128 .f32 × FVec F S128x1 .f32 × FVec F S128x128 .f32 × FVec F S128x1 .f32
    × FVec F S128x128 .f32 × FVec F S128x1 .f32 × FVec F S128x128 .f32 × FVec F S128x1 .f32

/-- Two arrays per strip, as the eight the loop carries. -/
def flat (a b c d : FVec F S128x128 .f32 × FVec F S128x1 .f32) : Carry F :=
  (a.1, a.2, b.1, b.2, c.1, c.2, d.1, d.2)

/-- A block of 256 rows of keys or values, as the kernel loads it. -/
abbrev load256 (a : Memref sig .tc .vmem S4096x128 .bf16) (X : BufTy.Contents (Elt F) a.view.ty) (off : Fin 2 → ℕ)
    (h : ∀ x, off x + S256x128.size x ≤ S4096x128.size x) : Vec F S256x128 .bf16 :=
  View.readAt (Elt F) a.view (Rect.unit (s := S4096x128) off S256x128.size h).toLoadRect X

/-- A strip of 128 query rows, as the kernel loads it. -/
abbrev load128 (a : Memref sig .tc .vmem S512x128 .bf16) (X : BufTy.Contents (Elt F) a.view.ty) (off : Fin 2 → ℕ)
    (h : ∀ x, off x + S128x128.size x ≤ S512x128.size x) : Vec F S128x128 .bf16 :=
  View.readAt (Elt F) a.view (Rect.unit (s := S512x128) off S128x128.size h).toLoadRect X

theorem trip_eq (𝒱 : Variants) (c : Dev nD) (bd : Option 𝒱.V) (i : grid0.Coords)
    (arg3 : Memref sig .tc .vmem S512x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S512x128 .bf16) (harg6 : arg6.IsWhole)
    (arg2 : BitVec 32) (v6 : FVec F S256x256 .bf16) (X3 : BufTy.Contents (Elt F) arg3.view.ty) (X4 : BufTy.Contents (Elt F) arg4.view.ty)
    (X5 : BufTy.Contents (Elt F) arg5.view.ty) (k : Fin (k0_t1_loop i).trips) (acc : Carry F) :
    tripR_k0_t1 𝒱 c bd i arg3 harg3 arg4 harg4 arg5 harg5 arg6 harg6 arg2 v6 X3 X4 X5 k acc
      = (let k1 := load256 arg4 X4 (k0_off3 i k 1#32) (k0_off3_inb i k 0)
         let k2 := load256 arg4 X4 (k0_off3 i k 2#32) (k0_off3_inb i k 1)
         let v1 := load256 arg5 X5 (k0_off3 i k 1#32) (k0_off3_inb i k 0)
         let v2 := load256 arg5 X5 (k0_off3 i k 2#32) (k0_off3_inb i k 1)
         let both := fun (q : Vec F S128x128 .bf16) s => step v6 q k2 v2 (step v6 q k1 v1 s)
         flat (both (load128 arg3 X3 ![0, 0] inb_S512x128_S128x128_0_0) (acc.1, acc.2.1))
           (both (load128 arg3 X3 ![128, 0] inb_S512x128_S128x128_128_0) (acc.2.2.1, acc.2.2.2.1))
           (both (load128 arg3 X3 ![256, 0] inb_S512x128_S128x128_256_0) (acc.2.2.2.2.1, acc.2.2.2.2.2.1))
           (both (load128 arg3 X3 ![384, 0] inb_S512x128_S128x128_384_0) (acc.2.2.2.2.2.2.1, acc.2.2.2.2.2.2.2))) := by
  unfold tripR_k0_t1 trip_k0_t1
  rfl

end Cert.KernelIdeal.Attn

end
-- ==== Proof.AttnRun.lean ====
/-
  What the attention kernel stores at one grid point, written with the steps of `AttnStep.lean`: the carried arrays after the
  keys of the query block itself (`start`), then after the loop over earlier keys (`walked`), whose four weighted sums are the
  four strips of rows stored.
-/
module

public import proofs.«01_k».proof.Proof.AttnTrip
public import Idealize.ShloMosaic.Lib.LoopRemainder

@[expose] public section

set_option maxRecDepth 16384

noncomputable section

namespace Cert.KernelIdeal.Attn

open Idealize.ShloMosaic Idealize.SL.Sem
open Cert.KernelIdeal Cert.KernelIdeal.Gen

variable {F : FTy → Type} [FloatOps F]

/-- The row number in a strip. -/
abbrev rowIx : IVec S128x256 32 := iota .tc S128x256 32 [0] iota_S128x256_d0_w32

/-- The column number in a block of keys. -/
abbrev colIx : IVec S128x256 32 := iota .tc S128x256 32 [1] iota_S128x256_d1_w32

/-- The carried arrays after the keys that lie beside the query block: two blocks of keys, the later one first, each through
    a mask where a strip's own positions fall into it. -/
def start (i : grid0.Coords)
    (arg3 : Memref sig .tc .vmem S512x128 .bf16) (arg4 arg5 : Memref sig .tc .vmem S4096x128 .bf16)
    (X3 : BufTy.Contents (Elt F) arg3.view.ty) (X4 : BufTy.Contents (Elt F) arg4.view.ty)
    (X5 : BufTy.Contents (Elt F) arg5.view.ty) : Carry F :=
  let kb := load256 arg4 X4 (k0_off1 i) (k0_off1_inb i)
  let ka := load256 arg4 X4 (k0_off2 i) (k0_off2_inb i)
  let vb := load256 arg5 X5 (k0_off1 i) (k0_off1_inb i)
  let va := load256 arg5 X5 (k0_off2 i) (k0_off2_inb i)
  let q0 := load128 arg3 X3 ![0, 0] inb_S512x128_S128x128_0_0
  let q1 := load128 arg3 X3 ![128, 0] inb_S512x128_S128x128_128_0
  let q2 := load128 arg3 X3 ![256, 0] inb_S512x128_S128x128_256_0
  let q3 := load128 arg3 X3 ![384, 0] inb_S512x128_S128x128_384_0
  flat (stepM k0_pay115 (k0_pay124 rowIx colIx) q0 ka va (k0_pay116, k0_pay117))
    (stepM k0_pay115 (k0_pay125 rowIx colIx) q1 ka va (k0_pay118, k0_pay119))
    (step k0_pay115 q2 ka va (stepM k0_pay115 (k0_pay126 rowIx colIx) q2 kb vb (k0_pay120, k0_pay121)))
    (step k0_pay115 q3 ka va (stepM k0_pay115 (k0_pay127 rowIx colIx) q3 kb vb (k0_pay122, k0_pay123)))

/-- The carried arrays after `n` trips of the loop over earlier keys. -/
def walked (c : Dev nD) (i : grid0.Coords)
    (arg3 : Memref sig .tc .vmem S512x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S512x128 .bf16) (harg6 : arg6.IsWhole)
    (x0 : Vec F S512x128 .bf16) (x1 : Vec F S4096x128 .bf16) (x2 : Vec F S4096x128 .bf16) (n : ℕ) : Carry F :=
  st_k0_t1 Variants.none c none i arg3 harg3 arg4 harg4 arg5 harg5 arg6 harg6 (BitVec.ofNat 32 (i 2).val) k0_pay115
    (harg3.unread x0) (harg4.unread x1) (harg5.unread x2)
    (start i arg3 arg4 arg5 (harg3.unread x0) (harg4.unread x1) (harg5.unread x2)) n

theorem pieces_eq (c : Dev nD) (i : grid0.Coords)
    (arg3 : Memref sig .tc .vmem S512x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S512x128 .bf16) (harg6 : arg6.IsWhole)
    (x0 : Vec F S512x128 .bf16) (x1 : Vec F S4096x128 .bf16) (x2 : Vec F S4096x128 .bf16) :
    (kernelRun0_A c i arg3 harg3 arg4 harg4 arg5 harg5 arg6 harg6 x0 x1 x2).1
      = (let w := walked c i arg3 harg3 arg4 harg4 arg5 harg5 arg6 harg6 x0 x1 x2 (k0_t1_loop i).trips
         [⟨Rect.unit (s := S512x128) ![384, 0] S128x128.size inb_S512x128_S128x128_384_0, k0_pay16 w.2.2.2.2.2.2.1⟩,
          ⟨Rect.unit (s := S512x128) ![256, 0] S128x128.size inb_S512x128_S128x128_256_0, k0_pay15 w.2.2.2.2.1⟩,
          ⟨Rect.unit (s := S512x128) ![128, 0] S128x128.size inb_S512x128_S128x128_128_0, k0_pay14 w.2.2.1⟩,
          ⟨Rect.unit (s := S512x128) ![0, 0] S128x128.size inb_S512x128_S128x128_0_0, k0_pay13 w.1⟩]) := by
  unfold kernelRun0_A
  dsimp only
  simp only [Scf.rem_trips, st_k0_t2]
  rfl

end Cert.KernelIdeal.Attn

end
-- ==== Proof.AttnGood.lean ====
/-
  Over the extended reals, the steps of `AttnStep.lean` keep what the two carried arrays mean: the row sum and the weighted sum
  of `RowMath.lean` over the keys walked so far.
-/
module

public import proofs.«01_k».proof.Proof.AttnStep

@[expose] public section

set_option maxRecDepth 16384

noncomputable section

namespace Cert.KernelIdeal.Attn

open Idealize.ShloMosaic Idealize.SL.Sem
open Cert.KernelIdeal Cert.KernelIdeal.Gen Cert.RowMath
open scoped BigOperators

/-- The two carried arrays of a strip whose first row is at position `T`, after the keys from `J` on. -/
def Good (l v : Fin 128 → ℕ → EReal) (T J : ℕ) (s : FVec Ideal S128x128 .f32 × FVec Ideal S128x1 .f32) : Prop :=
  (∀ r : Fin 128, s.2 (ix2 r 0) = runFrom (l r) (T + r.val) J)
    ∧ ∀ r d : Fin 128, s.1 (ix2 r d) = accFrom (l r) (v d) (T + r.val) J

variable {l v : Fin 128 → ℕ → EReal} {T J : ℕ} {s : FVec Ideal S128x128 .f32 × FVec Ideal S128x1 .f32}
  {q : Vec Ideal S128x128 .bf16} {k w : Vec Ideal S256x128 .bf16}

/-- A strip's keys not yet walked: both arrays zero. -/
theorem Good.zero (h : T + 128 ≤ J) (h2 : ∀ r : Fin 128, s.2 (ix2 r 0) = (0 : EReal)) (h1 : ∀ r d : Fin 128, s.1 (ix2 r d) = (0 : EReal)) :
    Good l v T J s :=
  ⟨fun r => by rw [h2, runFrom_of_le (by omega)], fun r d => by rw [h1, accFrom_of_le (by omega)]⟩

/-- One block, given what its weights and its `stay` values are. -/
theorem Good.block (hJ : J + 256 ≤ 4096) (hs : Good l v T (J + 256) s)
    (hv : ∀ (c : Fin 256) (d : Fin 128), w (ix2 c d) = v d (J + c.val))
    {lg W : FVec Ideal S128x256 .f32}
    (hl : ∀ (r : Fin 128) (c : Fin 256), lg (ix2 r c) = lm (l r) (T + r.val) (J + c.val))
    (hW : ∀ (r : Fin 128) (c : Fin 256), W (ix2 r c) = wt (l r) (T + r.val) (J + c.val)) :
    Good l v T J (accum s.1 W w, addRow s.2 lg) := by
  refine ⟨fun r => ?_, fun r d => ?_⟩
  · refine (addRow_apply _ _ _).trans ?_
    rw [hs.1, runFrom_step hJ]
    exact congrArg _ (Finset.sum_congr rfl fun c _ => hl r c)
  · refine (accum_apply _ _ _ _ _).trans ?_
    rw [hs.2, accFrom_step hJ]
    exact congrArg _ (Finset.sum_congr rfl fun c _ => by rw [hW, hv])

/-- The exponential the kernel takes is the weight of `RowMath.lean`, given the block's `stay` values. -/
theorem weight_eq (hJ : J + 256 ≤ 4096) (hs : Good l v T (J + 256) s) {lo lg : FVec Ideal S128x256 .f32}
    (hlo : ∀ (r : Fin 128) (c : Fin 256), lo (ix2 r c) = l r (J + c.val))
    (hl : ∀ (r : Fin 128) (c : Fin 256), lg (ix2 r c) = lm (l r) (T + r.val) (J + c.val)) (r : Fin 128) (c : Fin 256) :
    weight (F := Ideal) k0_pay115 lo lg s.2 (ix2 r c) = Ideal.exp (l r (J + c.val) + runFrom (l r) (T + r.val) (J + c.val)) := by
  refine (weight_apply _ _ _ _ _).trans ?_
  rw [hs.1, hlo, runFrom_inner hJ, add_assoc]
  simp only [hl]

/-- A block of keys that every row of the strip sees. -/
theorem Good.step (hJ : J + 256 ≤ 4096) (hT : J + 256 ≤ T) (hs : Good l v T (J + 256) s)
    (hq : ∀ (r : Fin 128) (c : Fin 256), logits q k (ix2 r c) = l r (J + c.val))
    (hv : ∀ (c : Fin 256) (d : Fin 128), w (ix2 c d) = v d (J + c.val)) :
    Good l v T J (Attn.step k0_pay115 q k w s) := by
  have hl : ∀ (r : Fin 128) (c : Fin 256), log1m (logits q k) (ix2 r c) = lm (l r) (T + r.val) (J + c.val) := fun r c => by
    rw [log1m_apply, hq, lm, if_pos (by omega)]
  refine Good.block hJ hs hv hl fun r c => ?_
  rw [weight_eq hJ hs hq hl, wt, if_pos (by omega)]

/-- A block of keys seen through a mask that keeps the keys before the row's own position. -/
theorem Good.stepM {msk : IVec S128x256 1} (hJ : J + 256 ≤ 4096) (hs : Good l v T (J + 256) s)
    (hm : ∀ (r : Fin 128) (c : Fin 256), msk (ix2 r c) = BitVec.ofBool (decide (J + c.val < T + r.val)))
    (hq : ∀ (r : Fin 128) (c : Fin 256), logits q k (ix2 r c) = l r (J + c.val))
    (hv : ∀ (c : Fin 256) (d : Fin 128), w (ix2 c d) = v d (J + c.val)) :
    Good l v T J (Attn.stepM k0_pay115 msk q k w s) := by
  have hl : ∀ (r : Fin 128) (c : Fin 256),
      select msk (log1m (logits q k)) zeros (ix2 r c) = lm (l r) (T + r.val) (J + c.val) := fun r c => by
    refine Eq.trans (b := Scalar.select (msk (ix2 r c)) (log1m (logits q k) (ix2 r c)) (zeros (F := Ideal) (ix2 r c))) (by pointwise) ?_
    rw [hm, log1m_apply, hq, lm]
    by_cases h : J + c.val < T + r.val
    · simp [h, Scalar.select]
    · simp only [h, decide_false, if_false]
      pointwise [zeros]
      simp [Scalar.select]
  refine Good.block hJ hs hv hl fun r c => ?_
  refine Eq.trans (b := Scalar.select (msk (ix2 r c)) (weight (F := Ideal) k0_pay115 (logits q k)
      (select msk (log1m (logits q k)) zeros) s.2 (ix2 r c)) (zeros (F := Ideal) (ix2 r c))) (by pointwise) ?_
  rw [hm, weight_eq hJ hs hq hl, wt]
  by_cases h : J + c.val < T + r.val
  · simp [h, Scalar.select]
  · simp only [h, decide_false, if_false]
    pointwise [zeros]
    simp [Scalar.select]

end Cert.KernelIdeal.Attn

end
-- ==== Proof.AttnWalk.lean ====
/-
  The attention kernel's walk at one grid point, over the extended reals: after the keys beside the query block, and after every
  trip of the loop, each strip's carried arrays are the sums of `RowMath.lean` over the keys walked so far.
-/
module

public import proofs.«01_k».proof.Proof.AttnRun
public import proofs.«01_k».proof.Proof.AttnGood

@[expose] public section

set_option maxRecDepth 16384

noncomputable section

namespace Cert.KernelIdeal.Attn

open Idealize.ShloMosaic Idealize.SL.Sem
open Cert.KernelIdeal Cert.KernelIdeal.Gen Cert.RowMath
open scoped BigOperators

/-! ## Which keys are loaded -/

theorem off1_eq (i : grid0.Coords) : k0_off1 i = ![512 * (i 2).val + 256, 0] := by
  have h : ∀ a : Fin 8, (Scalar.indexCast (Scalar.muli (Scalar.addi (Scalar.muli 2#32 (BitVec.ofNat 32 a.val)) 1#32) 256#32)
      : Index).toNat = 512 * a.val + 256 := by decide
  unfold k0_off1
  exact congrArg (fun n : ℕ => (![n, 0] : Fin 2 → ℕ)) (h (i 2))

theorem off2_eq (i : grid0.Coords) : k0_off2 i = ![512 * (i 2).val, 0] := by
  have h : ∀ a : Fin 8, (Scalar.indexCast (Scalar.muli (Scalar.muli 2#32 (BitVec.ofNat 32 a.val)) 256#32)
      : Index).toNat = 512 * a.val := by decide
  unfold k0_off2
  exact congrArg (fun n : ℕ => (![n, 0] : Fin 2 → ℕ)) (h (i 2))

theorem trips_eq (i : grid0.Coords) : (k0_t1_loop i).trips = (i 2).val := by
  have h : ∀ a : Fin 8, Scf.trips 0#32 (Scalar.addi 0#32 (Scalar.muli (Scalar.divsi (Scalar.subi (BitVec.ofNat 32 a.val) 0#32) 1#32)
      1#32)) 1#32 = a.val := by decide
  exact h (i 2)

theorem off3_eq1 (i : grid0.Coords) (k : Fin (k0_t1_loop i).trips) :
    k0_off3 i k 1#32 = ![512 * ((i 2).val - k.val) - 256, 0] := by
  have h : ∀ a k : Fin 8, k.val < a.val → (Scalar.indexCast (Scalar.muli (Scalar.subi (Scalar.muli 2#32 (Scalar.subi
      (BitVec.ofNat 32 a.val) (Scf.iv 0#32 1#32 k.val))) 1#32) 256#32) : Index).toNat = 512 * (a.val - k.val) - 256 := by decide
  have hk : k.val < (i 2).val := (trips_eq i) ▸ k.isLt
  have h8 : (i 2).val < 8 := (i 2).isLt
  unfold k0_off3
  exact congrArg (fun n : ℕ => (![n, 0] : Fin 2 → ℕ)) (h (i 2) ⟨k.val, by omega⟩ hk)

theorem off3_eq2 (i : grid0.Coords) (k : Fin (k0_t1_loop i).trips) :
    k0_off3 i k 2#32 = ![512 * ((i 2).val - k.val) - 512, 0] := by
  have h : ∀ a k : Fin 8, k.val < a.val → (Scalar.indexCast (Scalar.muli (Scalar.subi (Scalar.muli 2#32 (Scalar.subi
      (BitVec.ofNat 32 a.val) (Scf.iv 0#32 1#32 k.val))) 2#32) 256#32) : Index).toNat = 512 * (a.val - k.val) - 512 := by decide
  have hk : k.val < (i 2).val := (trips_eq i) ▸ k.isLt
  have h8 : (i 2).val < 8 := (i 2).isLt
  unfold k0_off3
  exact congrArg (fun n : ℕ => (![n, 0] : Fin 2 → ℕ)) (h (i 2) ⟨k.val, by omega⟩ hk)

/-! ## What the loads hold -/

theorem load256_apply {a : Memref sig .tc .vmem S4096x128 .bf16} (h : a.IsWhole) (x : Vec Ideal S4096x128 .bf16)
    {off : Fin 2 → ℕ} (hb : ∀ x, off x + S256x128.size x ≤ S4096x128.size x) {J : ℕ} (ho : off = ![J, 0])
    (hJ : J + 256 ≤ 4096) (c : Fin 256) (e : Fin 128) :
    load256 a (h.unread x) off hb (ix2 c e) = x (ix2 ⟨J + c.val, by omega⟩ e) := by
  subst ho
  refine (congrFun (h.read_unread x) _).trans (congrArg x ?_)
  funext b
  refine Fin.ext ?_
  match b with
  | ⟨0, _⟩ => exact congrArg (J + ·) (Nat.one_mul _)
  | ⟨1, _⟩ => exact (Nat.zero_add _).trans (Nat.one_mul _)

theorem load128_apply {a : Memref sig .tc .vmem S512x128 .bf16} (h : a.IsWhole) (x : Vec Ideal S512x128 .bf16)
    {J : ℕ} (hb : ∀ x, (![J, 0] : Fin 2 → ℕ) x + S128x128.size x ≤ S512x128.size x)
    (hJ : J + 128 ≤ 512) (r : Fin 128) (e : Fin 128) :
    load128 a (h.unread x) ![J, 0] hb (ix2 r e) = x (ix2 ⟨J + r.val, by omega⟩ e) := by
  refine (congrFun (h.read_unread x) _).trans (congrArg x ?_)
  funext b
  refine Fin.ext ?_
  match b with
  | ⟨0, _⟩ => exact congrArg (J + ·) (Nat.one_mul _)
  | ⟨1, _⟩ => exact (Nat.zero_add _).trans (Nat.one_mul _)

/-- The logit of row `R` of the query block against key `j`. -/
def lgt (x0 : Vec Ideal S512x128 .bf16) (x1 : Vec Ideal S4096x128 .bf16) (R : Fin 512) (j : ℕ) : EReal :=
  if h : j < 4096 then ∑ e : Fin 128, (x0 (ix2 R e) : EReal) * (x1 (ix2 ⟨j, h⟩ e) : EReal) else 0

/-- Coordinate `d` of value `j`. -/
def vls (x2 : Vec Ideal S4096x128 .bf16) (d : Fin 128) (j : ℕ) : EReal :=
  if h : j < 4096 then (x2 (ix2 ⟨j, h⟩ d) : EReal) else 0

/-! ## The masks -/

theorem mask_eq (n : ℕ) (hn : n ≤ 128) (r : Fin 128) (c : Fin 256) :
    cmpi .slt colIx (addi rowIx (broadcast S128x256 (BitVec.ofNat 32 n))) (ix2 r c) = BitVec.ofBool (decide (c.val < r.val + n)) := by
  pointwise []
  have h : IntOp.cmpi CmpIPredicate.slt (BitVec.ofNat 32 c.val) (BitVec.ofNat 32 r.val + BitVec.ofNat 32 n)
      = BitVec.ofBool (decide (c.val < r.val + n)) := by
    rw [IntOp.cmpi, ← BitVec.ofNat_add]
    simp only [BitVec.slt_eq_decide]
    rw [toInt_small (by omega), toInt_small (by omega)]
    simp
    norm_cast
  exact h

/-! ## The walk -/

section Walk

variable (c : Dev nD) (i : grid0.Coords)
  {arg3 : Memref sig .tc .vmem S512x128 .bf16} (harg3 : arg3.IsWhole) {arg4 : Memref sig .tc .vmem S4096x128 .bf16} (harg4 : arg4.IsWhole)
  {arg5 : Memref sig .tc .vmem S4096x128 .bf16} (harg5 : arg5.IsWhole) {arg6 : Memref sig .tc .vmem S512x128 .bf16} (harg6 : arg6.IsWhole)
  (x0 : Vec Ideal S512x128 .bf16) (x1 : Vec Ideal S4096x128 .bf16) (x2 : Vec Ideal S4096x128 .bf16)

/-- The logits of the strip that starts at row `o` of the query block. -/
def strip (o : ℕ) (ho : o + 128 ≤ 512) (r : Fin 128) : ℕ → EReal := lgt x0 x1 ⟨o + r.val, by omega⟩

theorem logits_load {o : ℕ} (ho : o + 128 ≤ 512) (hb : ∀ x, (![o, 0] : Fin 2 → ℕ) x + S128x128.size x ≤ S512x128.size x)
    {off : Fin 2 → ℕ} (hb' : ∀ x, off x + S256x128.size x ≤ S4096x128.size x) {J : ℕ} (hoff : off = ![J, 0]) (hJ : J + 256 ≤ 4096)
    (r : Fin 128) (k : Fin 256) :
    logits (load128 arg3 (harg3.unread x0) ![o, 0] hb) (load256 arg4 (harg4.unread x1) off hb') (ix2 r k)
      = strip x0 x1 o ho r (J + k.val) := by
  refine (logits_apply _ _ _ _).trans ?_
  rw [strip, lgt, dif_pos (by omega)]
  refine Finset.sum_congr rfl fun e _ => ?_
  rw [load128_apply harg3 x0 hb ho, load256_apply harg4 x1 hb' hoff hJ]

theorem value_load {off : Fin 2 → ℕ} (hb' : ∀ x, off x + S256x128.size x ≤ S4096x128.size x) {J : ℕ} (hoff : off = ![J, 0])
    (hJ : J + 256 ≤ 4096) (k : Fin 256) (d : Fin 128) :
    load256 arg5 (harg5.unread x2) off hb' (ix2 k d) = vls x2 d (J + k.val) := by
  rw [load256_apply harg5 x2 hb' hoff hJ, vls, dif_pos (by omega)]

/-- All four strips' arrays are the sums over the keys from `J` on. -/
def AllGood (J : ℕ) (w : Carry Ideal) : Prop :=
  Good (strip x0 x1 0 (by omega)) (vls x2) (512 * (i 2).val) J (w.1, w.2.1)
    ∧ Good (strip x0 x1 128 (by omega)) (vls x2) (512 * (i 2).val + 128) J (w.2.2.1, w.2.2.2.1)
    ∧ Good (strip x0 x1 256 (by omega)) (vls x2) (512 * (i 2).val + 256) J (w.2.2.2.2.1, w.2.2.2.2.2.1)
    ∧ Good (strip x0 x1 384 (by omega)) (vls x2) (512 * (i 2).val + 384) J (w.2.2.2.2.2.2.1, w.2.2.2.2.2.2.2)

variable {i x0 x1 x2} in
theorem AllGood.of_flat {J : ℕ} {a b d e : FVec Ideal S128x128 .f32 × FVec Ideal S128x1 .f32}
    (ha : Good (strip x0 x1 0 (by omega)) (vls x2) (512 * (i 2).val) J a)
    (hb : Good (strip x0 x1 128 (by omega)) (vls x2) (512 * (i 2).val + 128) J b)
    (hd : Good (strip x0 x1 256 (by omega)) (vls x2) (512 * (i 2).val + 256) J d)
    (he : Good (strip x0 x1 384 (by omega)) (vls x2) (512 * (i 2).val + 384) J e) :
    AllGood i x0 x1 x2 J (flat a b d e) := ⟨ha, hb, hd, he⟩

theorem start_good : AllGood i x0 x1 x2 (512 * (i 2).val) (start i arg3 arg4 arg5 (harg3.unread x0) (harg4.unread x1) (harg5.unread x2)) := by
  have h8 : (i 2).val < 8 := (i 2).isLt
  refine ⟨?_, ?_, ?_, ?_⟩
  · refine Good.stepM (by omega) (Good.zero (by omega) (fun r => ?_) fun r d => ?_) (fun r k => ?_)
      (fun r k => logits_load harg3 harg4 x0 x1 (by omega) _ _ (off2_eq i) (by omega) r k)
      (fun k d => value_load harg5 x2 _ (off2_eq i) (by omega) k d)
    · pointwise [k0_pay117]
    · pointwise [k0_pay116]
    · refine (mask_eq 0 (by omega) r k).trans (congrArg BitVec.ofBool (decide_eq_decide.mpr ?_)); omega
  · refine Good.stepM (by omega) (Good.zero (by omega) (fun r => ?_) fun r d => ?_) (fun r k => ?_)
      (fun r k => logits_load harg3 harg4 x0 x1 (by omega) _ _ (off2_eq i) (by omega) r k)
      (fun k d => value_load harg5 x2 _ (off2_eq i) (by omega) k d)
    · pointwise [k0_pay119]
    · pointwise [k0_pay118]
    · refine (mask_eq 128 (by omega) r k).trans (congrArg BitVec.ofBool (decide_eq_decide.mpr ?_)); omega
  · refine Good.step (by omega) (by omega) (Good.stepM (by omega) (Good.zero (by omega) (fun r => ?_) fun r d => ?_) (fun r k => ?_)
      (fun r k => logits_load harg3 harg4 x0 x1 (by omega) _ _ (off1_eq i) (by omega) r k)
      (fun k d => value_load harg5 x2 _ (off1_eq i) (by omega) k d))
      (fun r k => logits_load harg3 harg4 x0 x1 (by omega) _ _ (off2_eq i) (by omega) r k)
      (fun k d => value_load harg5 x2 _ (off2_eq i) (by omega) k d)
    · pointwise [k0_pay121]
    · pointwise [k0_pay120]
    · refine (mask_eq 0 (by omega) r k).trans (congrArg BitVec.ofBool (decide_eq_decide.mpr ?_)); omega
  · refine Good.step (by omega) (by omega) (Good.stepM (by omega) (Good.zero (by omega) (fun r => ?_) fun r d => ?_) (fun r k => ?_)
      (fun r k => logits_load harg3 harg4 x0 x1 (by omega) _ _ (off1_eq i) (by omega) r k)
      (fun k d => value_load harg5 x2 _ (off1_eq i) (by omega) k d))
      (fun r k => logits_load harg3 harg4 x0 x1 (by omega) _ _ (off2_eq i) (by omega) r k)
      (fun k d => value_load harg5 x2 _ (off2_eq i) (by omega) k d)
    · pointwise [k0_pay123]
    · pointwise [k0_pay122]
    · refine (mask_eq 128 (by omega) r k).trans (congrArg BitVec.ofBool (decide_eq_decide.mpr ?_)); omega

/-- Both blocks of a trip, on one strip. -/
theorem both_good {T J J1 J2 o : ℕ} (ho : o + 128 ≤ 512) (hb : ∀ x, (![o, 0] : Fin 2 → ℕ) x + S128x128.size x ≤ S512x128.size x)
    {off1 off2 : Fin 2 → ℕ} (hb1 : ∀ x, off1 x + S256x128.size x ≤ S4096x128.size x)
    (hb2 : ∀ x, off2 x + S256x128.size x ≤ S4096x128.size x) (h1 : off1 = ![J1, 0]) (h2 : off2 = ![J2, 0])
    (hJ1 : J1 + 256 = J) (hJ2 : J2 + 256 = J1) (hJ : J ≤ 4096) (hT : J ≤ T)
    {s : FVec Ideal S128x128 .f32 × FVec Ideal S128x1 .f32} (hs : Good (strip x0 x1 o ho) (vls x2) T J s) :
    Good (strip x0 x1 o ho) (vls x2) T J2
      (step k0_pay115 (load128 arg3 (harg3.unread x0) ![o, 0] hb) (load256 arg4 (harg4.unread x1) off2 hb2)
        (load256 arg5 (harg5.unread x2) off2 hb2)
        (step k0_pay115 (load128 arg3 (harg3.unread x0) ![o, 0] hb) (load256 arg4 (harg4.unread x1) off1 hb1)
          (load256 arg5 (harg5.unread x2) off1 hb1) s)) := by
  subst hJ2; subst hJ1
  exact Good.step (by omega) (by omega) (Good.step (by omega) (by omega) hs
      (fun r k => logits_load harg3 harg4 x0 x1 ho hb hb1 h1 (by omega) r k)
      (fun k d => value_load harg5 x2 hb1 h1 (by omega) k d))
    (fun r k => logits_load harg3 harg4 x0 x1 ho hb hb2 h2 (by omega) r k)
    (fun k d => value_load harg5 x2 hb2 h2 (by omega) k d)

theorem trip_good (k : Fin (k0_t1_loop i).trips) (w : Carry Ideal)
    (ih : AllGood i x0 x1 x2 (512 * ((i 2).val - k.val)) w) :
    AllGood i x0 x1 x2 (512 * ((i 2).val - (k.val + 1)))
      (tripR_k0_t1 Variants.none c none i arg3 harg3 arg4 harg4 arg5 harg5 arg6 harg6 (BitVec.ofNat 32 (i 2).val) k0_pay115
        (harg3.unread x0) (harg4.unread x1) (harg5.unread x2) k w) := by
  have h8 : (i 2).val < 8 := (i 2).isLt
  have hk : k.val < (i 2).val := (trips_eq i) ▸ k.isLt
  have e1 := off3_eq1 i k
  have e2 := off3_eq2 i k
  have a1 : 512 * ((i 2).val - k.val) - 256 + 256 = 512 * ((i 2).val - k.val) := by omega
  have a2 : 512 * ((i 2).val - k.val) - 512 + 256 = 512 * ((i 2).val - k.val) - 256 := by omega
  have a3 : 512 * ((i 2).val - (k.val + 1)) = 512 * ((i 2).val - k.val) - 512 := by omega
  rw [trip_eq, a3]
  exact AllGood.of_flat
    (both_good harg3 harg4 harg5 x0 x1 x2 (by omega) _ _ _ e1 e2 a1 a2 (by omega) (by omega) ih.1)
    (both_good harg3 harg4 harg5 x0 x1 x2 (by omega) _ _ _ e1 e2 a1 a2 (by omega) (by omega) ih.2.1)
    (both_good harg3 harg4 harg5 x0 x1 x2 (by omega) _ _ _ e1 e2 a1 a2 (by omega) (by omega) ih.2.2.1)
    (both_good harg3 harg4 harg5 x0 x1 x2 (by omega) _ _ _ e1 e2 a1 a2 (by omega) (by omega) ih.2.2.2)

theorem walked_good (n : ℕ) (hn : n ≤ (i 2).val) :
    AllGood i x0 x1 x2 (512 * ((i 2).val - n)) (walked c i arg3 harg3 arg4 harg4 arg5 harg5 arg6 harg6 x0 x1 x2 n) := by
  induction n with
  | zero => exact start_good i harg3 harg4 harg5 x0 x1 x2
  | succ n ih =>
    have hk : n < (k0_t1_loop i).trips := by rw [trips_eq]; omega
    have ht := trip_good c i harg3 harg4 harg5 harg6 x0 x1 x2 ⟨n, hk⟩ _ (ih (by omega))
    unfold walked
    rw [st_k0_t1_succ Variants.none c none i arg3 harg3 arg4 harg4 arg5 harg5 arg6 harg6 _ _ _ _ _ _ ⟨n, hk⟩]
    exact ht

end Walk

end Cert.KernelIdeal.Attn

end
-- ==== Proof.AttnOut.lean ====
/-
  The attention kernel's output array, over the extended reals: every element is the weighted sum of `RowMath.lean` over all
  the keys of its batch entry and head.
-/
module

public import proofs.«01_k».proof.Proof.Gen.KernelIdeal.Value
public import proofs.«01_k».proof.Proof.AttnWalk
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.RowMath
open scoped BigOperators

/-! ## One grid point -/

/-- The block's elements, as the sums they are. -/
abbrev blkSum (T : ℕ) (x0 : Vec Ideal S512x128 .bf16) (x1 : Vec Ideal S4096x128 .bf16) (x2 : Vec Ideal S4096x128 .bf16)
    (y : S512x128.Idx) : EReal :=
  accFrom (lgt x0 x1 (y 0)) (vls x2 (y 1)) (T + (y 0).val) 0

/-- A strip whose arrays hold the sums over all keys is that strip of the block. -/
theorem piece_eq {T o : ℕ} (ho : o + 128 ≤ 512) (hb : ∀ x, (![o, 0] : Fin 2 → ℕ) x + S128x128.size x ≤ S512x128.size x)
    {x0 : Vec Ideal S512x128 .bf16} {x1 : Vec Ideal S4096x128 .bf16} {x2 : Vec Ideal S4096x128 .bf16}
    {s : FVec Ideal S128x128 .f32 × FVec Ideal S128x1 .f32} (hs : Good (strip x0 x1 o ho) (vls x2) (T + o) 0 s) (x : S128x128.Idx) :
    s.1 x = blkSum T x0 x1 x2 ((Rect.unit (s := S512x128) ![o, 0] S128x128.size hb).emb x) := by
  have hx : x = ix2 (x 0) (x 1) := by funext a; match a with | ⟨0, _⟩ => rfl | ⟨1, _⟩ => rfl
  have e0 : (Rect.unit (s := S512x128) ![o, 0] S128x128.size hb).emb x 0 = (⟨o + (x 0).val, by have := (x 0).isLt; change _ < 512; change (x 0).val < 128 at this; omega⟩ : Fin 512) :=
    Fin.ext (congrArg (o + ·) (Nat.one_mul _))
  have e1 : (Rect.unit (s := S512x128) ![o, 0] S128x128.size hb).emb x 1 = x 1 :=
    Fin.ext ((Nat.zero_add _).trans (Nat.one_mul _))
  refine (congrArg s.1 hx).trans ((hs.2 (x 0) (x 1)).trans ?_)
  unfold blkSum
  rw [e0, e1]
  simp only [strip, Nat.add_assoc]

/-- What the kernel's run leaves in the output block, element by element. -/
theorem out_apply (c : Dev nD) (i : grid0.Coords)
    (arg3 : Memref sig .tc .vmem S512x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S512x128 .bf16) (harg6 : arg6.IsWhole)
    (x0 : Vec Ideal S512x128 .bf16) (x1 : Vec Ideal S4096x128 .bf16) (x2 : Vec Ideal S4096x128 .bf16) (y : S512x128.Idx) :
    out0_A_3 c i arg3 harg3 arg4 harg4 arg5 harg5 arg6 harg6 x0 x1 x2 y
      = accFrom (lgt x0 x1 (y 0)) (vls x2 (y 1)) (512 * (i 2).val + (y 0).val) 0 := by
  have hw := walked_good c i harg3 harg4 harg5 harg6 x0 x1 x2 (i 2).val le_rfl
  rw [Nat.sub_self, Nat.mul_zero, ← trips_eq i] at hw
  unfold out0_A_3
  rw [View.read_writes_eq_canon _ _ _ (cover0_A_3 c i arg3 harg3 arg4 harg4 arg5 harg5 arg6 harg6 x0 x1 x2)]
  refine View.canon_apply_of_pieces (blkSum (512 * (i 2).val) x0 x1 x2) _ ?_ y
    (cover0_A_3 c i arg3 harg3 arg4 harg4 arg5 harg5 arg6 harg6 x0 x1 x2 y)
  rw [pieces_eq]
  exact View.PiecesOf.mem ⟨piece_eq (by omega) inb_S512x128_S128x128_384_0 hw.2.2.2,
    piece_eq (by omega) inb_S512x128_S128x128_256_0 hw.2.2.1, piece_eq (by omega) inb_S512x128_S128x128_128_0 hw.2.1,
    piece_eq (by omega) inb_S512x128_S128x128_0_0 hw.1, trivial⟩

/-! ## The whole array -/

/-- The logits of query `t` of batch entry `b` and head `h`, by key. -/
def lrow (X : Vec Ideal S16384x6144 .bf16) (b : Fin 4) (h : Fin 16) (t : Fin 4096) (j : ℕ) : EReal :=
  if hj : j < 4096 then
    ∑ e : Fin 128, (X (ix2 ⟨4096 * b.val + t.val, by omega⟩ ⟨128 * h.val + e.val, by omega⟩) : EReal)
      * (X (ix2 ⟨4096 * b.val + j, by omega⟩ ⟨2048 + 128 * h.val + e.val, by omega⟩) : EReal)
  else 0

/-- Coordinate `d` of the values of batch entry `b` and head `h`, by key. -/
def vcol (X : Vec Ideal S16384x6144 .bf16) (b : Fin 4) (h : Fin 16) (d : Fin 128) (j : ℕ) : EReal :=
  if hj : j < 4096 then (X (ix2 ⟨4096 * b.val + j, by omega⟩ ⟨4096 + 128 * h.val + d.val, by omega⟩) : EReal) else 0

/-- The attention of every batch entry and head, laid out as the kernel's result. -/
def attn (X : Vec Ideal S16384x6144 .bf16) : Vec Ideal S16384x2048 .bf16 := fun j =>
  accFrom (lrow X ⟨(j 0).val / 4096, by have h : (j 0).val < 16384 := (j 0).isLt; omega⟩
      ⟨(j 1).val / 128, by have h : (j 1).val < 2048 := (j 1).isLt; omega⟩ ⟨(j 0).val % 4096, by omega⟩)
    (vcol X ⟨(j 0).val / 4096, by have h : (j 0).val < 16384 := (j 0).isLt; omega⟩
      ⟨(j 1).val / 128, by have h : (j 1).val < 2048 := (j 1).isLt; omega⟩ ⟨(j 1).val % 128, by omega⟩)
    ((j 0).val % 4096) 0

variable (m : (ℓ : Loc nD τ sig) → Buf (Elt Ideal) ℓ)

/-- The block each window reads or writes at a grid point. -/
theorem idx : ∀ t : Fin cfg0.N, win0_0.index t = ![t.val / 128 * 8 + t.val % 8, t.val / 8 % 16]
    ∧ win0_1.index t = ![t.val / 128, 16 + t.val / 8 % 16] ∧ win0_2.index t = ![t.val / 128, 32 + t.val / 8 % 16]
    ∧ win0_3.index t = ![t.val / 128 * 8 + t.val % 8, t.val / 8 % 16] ∧ (grid0.coords t 2).val = t.val % 8 :=
  (by decide +kernel : ∀ t : Fin grid0.N, _)

theorem accFrom_congr {l l' v v' : ℕ → EReal} {t t' J : ℕ} (hl : l = l') (hv : v = v') (ht : t = t') :
    accFrom l v t J = accFrom l' v' t' J := by rw [hl, hv, ht]

/-- One element of the block a grid point writes is the attention's element there. -/
theorem point (c : Dev nD) (t : Fin cfg0.N) (y : S512x128.Idx) :
    blkSum (512 * (grid0.coords t 2).val) (iblk m c 0 t) (iblk m c 1 t) (iblk m c 2 t) y
      = attn (m ((c : Thread nD τ).loc main_arg0)) (((cfg0.win 3).blk t).view.emb y) := by
  have ht : t.val < 512 := t.isLt
  have hy0 : (y 0).val < 512 := (y 0).isLt
  have hy1 : (y 1).val < 128 := (y 1).isLt
  have e0 : ((((cfg0.win 3).blk t).view.emb y) 0).val = 512 * (t.val / 128 * 8 + t.val % 8) + (y 0).val := by
    blk_simp [idx t] <;> try omega
  have e1 : ((((cfg0.win 3).blk t).view.emb y) 1).val = 128 * (t.val / 8 % 16) + (y 1).val := by
    blk_simp [idx t] <;> try omega
  have hT : 512 * (grid0.coords t 2).val + (y 0).val = ((((cfg0.win 3).blk t).view.emb y) 0).val % 4096 := by
    rw [(idx t).2.2.2.2, e0]; omega
  refine accFrom_congr (funext fun j => ?_) (funext fun j => ?_) hT
  · unfold lgt lrow
    by_cases hj : j < 4096
    · rw [dif_pos hj, dif_pos hj]
      refine Finset.sum_congr rfl fun e _ => ?_
      blk_point [iblk, V, idx t]
    · rw [dif_neg hj, dif_neg hj]
  · unfold vls vcol
    by_cases hj : j < 4096
    · rw [dif_pos hj, dif_pos hj]
      blk_point [iblk, V, idx t]
    · rw [dif_neg hj, dif_neg hj]

/-- The kernel's output array after the run is the attention of its argument. -/
theorem final (c : Dev nD) : (dats m 0 c).arrAt 3 (cfgs 0).N = attn (m ((c : Thread nD τ).loc main_arg0)) := by
  refine (dats m 0 c).arrAt_eq_of_covers 3 _ (by decide +kernel) fun t _ y => ?_
  blk_simp
  rw [after0_3]
  refine (out_apply c _ _ _ _ _ _ _ _ _ _ _ _ _).trans ?_
  exact point m c t y

end Cert.KernelIdeal.Attn

end
-- ==== Proof.AttnRef.lean ====
/-
  The attention reference, over the extended reals: every element of its result is the weighted
  sum of `RowMath.lean`, the same one the kernel leaves.
-/
module

public import proofs.«01_k».proof.Proof.AttnCumsum
public import proofs.«01_k».proof.Proof.RowReal
public import proofs.«01_k».proof.Proof.AttnOut

@[expose] public section

set_option maxRecDepth 16384

noncomputable section

namespace Cert.ReferenceIdeal.Attn

open Idealize.ShloMosaic
open Cert.ReferenceIdeal Cert.ReferenceIdeal.Gen Cert.ReferenceIdeal.Read Cert.RowMath
open Cert.KernelIdeal.Attn (lrow vcol attn)
open scoped BigOperators

variable (X : FVec Ideal S16384x6144 .bf16)

/-! ## Queries, keys and values -/

theorem q_apply (b : Fin 4) (g : Fin 16) (t : Fin 4096) (e : Fin 128) :
    val_main_v4 (F := Ideal) X (ix4 b g t e) = X (ix2 ⟨4096 * b.val + t.val, by omega⟩ ⟨128 * g.val + e.val, by omega⟩) := by
  rw [val_main_v4_apply, val_main_v3_apply, val_main_v2_apply, val_main_v1_apply, val_main_v0_apply]
  refine congrArg X (funext fun a => Fin.ext ?_)
  match a with
  | 0 => simp; omega
  | 1 => simp; omega

theorem k_apply (b : Fin 4) (g : Fin 16) (t : Fin 4096) (e : Fin 128) :
    val_main_v7 (F := Ideal) X (ix4 b g t e) = X (ix2 ⟨4096 * b.val + t.val, by omega⟩ ⟨2048 + 128 * g.val + e.val, by omega⟩) := by
  rw [val_main_v7_apply, val_main_v6_apply, val_main_v5_apply, val_main_v1_apply, val_main_v0_apply]
  refine congrArg X (funext fun a => Fin.ext ?_)
  match a with
  | 0 => simp; omega
  | 1 => simp; omega

theorem v_apply (b : Fin 4) (g : Fin 16) (t : Fin 4096) (e : Fin 128) :
    val_main_v10 (F := Ideal) X (ix4 b g t e) = X (ix2 ⟨4096 * b.val + t.val, by omega⟩ ⟨4096 + 128 * g.val + e.val, by omega⟩) := by
  rw [val_main_v10_apply, val_main_v9_apply, val_main_v8_apply, val_main_v1_apply, val_main_v0_apply]
  refine congrArg X (funext fun a => Fin.ext ?_)
  match a with
  | 0 => simp; omega
  | 1 => simp; omega

theorem logit_apply (b : Fin 4) (g : Fin 16) (t j : Fin 4096) :
    val_main_v12 (F := Ideal) X (ix4 b g t j) = lrow X b g t j.val := by
  rw [val_main_v12_apply, lrow, dif_pos j.isLt]
  refine Finset.sum_congr rfl fun e _ => ?_
  exact congrArg₂ (· * ·) (q_apply X b g t e) (k_apply X b g j e)

/-! ## The logarithms, the mask and the weights -/

theorem mask_apply (t j : Fin 4096) :
    val_main_v17 (F := Ideal) (ix2 t j) = BitVec.ofBool (decide (j.val < t.val)) := by
  rw [val_main_v17_apply, val_main_v15_apply, val_main_v16_apply, val_main_v13_apply, val_main_v14_apply, val_main_v11_apply,
    val_main_v11_apply]
  have h : IntOp.cmpi CmpIPredicate.slt (BitVec.ofNat 32 j.val) (BitVec.ofNat 32 t.val) = BitVec.ofBool (decide (j.val < t.val)) := by
    rw [IntOp.cmpi]
    simp only [BitVec.slt_eq_decide]
    rw [Cert.KernelIdeal.Attn.toInt_small (by omega), Cert.KernelIdeal.Attn.toInt_small (by omega)]
    simp
  exact h

theorem softplus (y : EReal) :
    -(Scalar.select (Ideal.cmp .une (y - 0) (y - 0)) (y + 0) (max y 0 + Ideal.log1p (Ideal.exp (-(max (y - 0) (-(y - 0))))))) = stay y := by
  have h : Ideal.cmp .une (y - 0) (y - 0) = 0#1 := by simp [Ideal.cmp]
  rw [h, stay, zero_sub, zero_sub, sub_zero]
  rfl

theorem zero_bits : (FloatOps.ofBits (F := Ideal) .f32 0x00000000#32 : EReal) = 0 := Ideal.ofBits_zero_f32

theorem logSig_apply (i : S4x16x4096x4096.Idx) :
    val_main_v18 (F := Ideal) X i = stay (-(val_main_v12 (F := Ideal) X i : EReal)) := by
  rw [val_main_v18_apply, val_main_call0_v1_apply, val_main_call0_call0_v4_apply, val_main_call0_call0_v6_apply,
    val_main_call0_call0_v11_apply, val_main_call0_call0_v1_apply, val_main_call0_call0_v10_apply, val_main_call0_call0_v9_apply,
    val_main_call0_call0_v8_apply, val_main_call0_call0_v7_apply, val_main_call0_call0_v3_apply, val_main_call0_call0_v0_apply,
    val_main_call0_call0_v2_apply, val_main_call0_call0_v5_apply, val_main_call0_call0_cst_apply, val_main_call0_v0_apply]
  rw [zero_bits]
  exact softplus _

theorem logOneSig_apply (i : S4x16x4096x4096.Idx) :
    val_main_v20 (F := Ideal) X i = stay (val_main_v12 (F := Ideal) X i : EReal) := by
  rw [val_main_v20_apply, val_main_call1_v1_apply, val_main_call1_call0_v4_apply, val_main_call1_call0_v6_apply,
    val_main_call1_call0_v11_apply, val_main_call1_call0_v1_apply, val_main_call1_call0_v10_apply, val_main_call1_call0_v9_apply,
    val_main_call1_call0_v8_apply, val_main_call1_call0_v7_apply, val_main_call1_call0_v3_apply, val_main_call1_call0_v0_apply,
    val_main_call1_call0_v2_apply, val_main_call1_call0_v5_apply, val_main_call1_call0_cst_apply, val_main_call1_v0_apply,
    val_main_v19_apply]
  rw [zero_bits]
  refine (softplus _).trans (congrArg stay ?_)
  exact neg_neg (val_main_v12 (F := Ideal) X i : EReal)

theorem select_mask (t j : ℕ) (a b : EReal) :
    Scalar.select (BitVec.ofBool (decide (j < t))) a b = if j < t then a else b := by
  by_cases h : j < t <;> simp [h, Scalar.select]

theorem lm_apply (b : Fin 4) (g : Fin 16) (t j : Fin 4096) :
    val_main_v21 (F := Ideal) X (ix4 b g t j) = lm (lrow X b g t) t.val j.val := by
  have hm : val_main_call2_v1 (F := Ideal) (ix4 b g t j) = BitVec.ofBool (decide (j.val < t.val)) := by
    rw [val_main_call2_v1_apply]
    refine (congrArg _ (funext fun a => ?_)).trans (mask_apply t j)
    match a with
    | 0 => rfl
    | 1 => rfl
  rw [val_main_v21_apply, hm, logOneSig_apply, logit_apply, val_main_call2_v2_apply, val_main_call2_v0_apply, val_main_cst_apply,
    zero_bits]
  exact select_mask _ _ _ _

theorem run_apply (b : Fin 4) (g : Fin 16) (t j : Fin 4096) :
    val_main_v22 (F := Ideal) X (ix4 b g t j) = runFrom (lrow X b g t) t.val j.val := by
  unfold val_main_v22
  rw [revsum _ _ (fun i => by rw [val_main_call3_v0_apply, val_main_call3_cst_apply, zero_bits])]
  refine Finset.sum_congr rfl fun p hp => ?_
  have h := (Finset.mem_Ico.mp hp).2
  rw [dif_pos h]
  exact lm_apply X b g t ⟨p, h⟩

theorem wt_apply (b : Fin 4) (g : Fin 16) (t j : Fin 4096) :
    val_main_v26 (F := Ideal) X (ix4 b g t j) = wt (lrow X b g t) t.val j.val := by
  have hm : val_main_call4_v1 (F := Ideal) (ix4 b g t j) = BitVec.ofBool (decide (j.val < t.val)) := by
    rw [val_main_call4_v1_apply]
    refine (congrArg _ (funext fun a => ?_)).trans (mask_apply t j)
    match a with
    | 0 => rfl
    | 1 => rfl
  rw [val_main_v26_apply, hm, val_main_v25_apply, val_main_v24_apply, val_main_v23_apply, run_apply, lm_apply, logSig_apply,
    logit_apply, val_main_call4_v2_apply, val_main_call4_v0_apply, val_main_cst_0_apply, zero_bits]
  refine (select_mask _ _ _ _).trans ?_
  unfold wt
  by_cases h : j.val < t.val
  · rw [if_pos h, if_pos h]
    exact congrArg Ideal.exp (exponent_eq h j.isLt)
  · rw [if_neg h, if_neg h]

/-! ## The result -/

theorem sum_Ico (n : ℕ) (f : Fin n → EReal) (F : ℕ → EReal) (h : ∀ k, f k = F k.val) : ∑ k, f k = ∑ p ∈ Finset.Ico 0 n, F p := by
  rw [Nat.Ico_zero_eq_range, Finset.sum_range]
  exact Finset.sum_congr rfl fun k _ => h k

theorem term_apply (b : Fin 4) (g : Fin 16) (t : Fin 4096) (d : Fin 128) (k : Fin 4096) :
    (val_main_v26 (F := Ideal) X (ix4 b g t k) : EReal) * val_main_v10 (F := Ideal) X (ix4 b g k d)
      = wt (lrow X b g t) t.val k.val * vcol X b g d k.val := by
  rw [wt_apply X b g t k, v_apply, vcol, dif_pos k.isLt]

theorem lidx_eq (b : Fin 4) (g : Fin 16) (t : Fin 4096) (d : Fin 128) (k : Fin 4096) :
    lidx_main_v27 (ix4 b g t d) k = ix4 b g t k := by
  funext a; match a with
  | 0 => rfl
  | 1 => rfl
  | 2 => rfl
  | 3 => rfl

theorem ridx_eq (b : Fin 4) (g : Fin 16) (t : Fin 4096) (d : Fin 128) (k : Fin 4096) :
    ridx_main_v27 (ix4 b g t d) k = ix4 b g k d := by
  funext a; match a with
  | 0 => rfl
  | 1 => rfl
  | 2 => rfl
  | 3 => rfl

theorem out_apply (b : Fin 4) (g : Fin 16) (t : Fin 4096) (d : Fin 128) :
    val_main_v27 (F := Ideal) X (ix4 b g t d) = accFrom (lrow X b g t) (vcol X b g d) t.val 0 := by
  rw [val_main_v27_apply]
  unfold accFrom
  refine sum_Ico 4096 _ _ fun k => ?_
  rw [lidx_eq, ridx_eq]
  exact term_apply X b g t d k

/-- What the reference returns. -/
theorem ref_eq :
    val_main_v30 (F := Ideal) X = attn X := by
  funext i
  have h0 : (i 0).val < 16384 := (i 0).isLt
  have h1 : (i 1).val < 2048 := (i 1).isLt
  have hi : idx_main_v28 (idx_main_v29 i) = ix4 (⟨(i 0).val / 4096, by omega⟩ : Fin 4) (⟨(i 1).val / 128, by omega⟩ : Fin 16)
      (⟨(i 0).val % 4096, by omega⟩ : Fin 4096) (⟨(i 1).val % 128, by omega⟩ : Fin 128) := by
    funext a
    refine Fin.ext ?_
    match a with
    | 0 => simp; omega
    | 1 => simp; omega
    | 2 => simp; omega
    | 3 => simp; omega
  rw [val_main_v30_apply, val_main_v29_apply, val_main_v28_apply, hi, out_apply]
  rfl

end Cert.ReferenceIdeal.Attn

end
-- ==== Proof.In0Dt.lean ====
/-
  The first layer's input projection, its columns dt: the kernel's output array is the reference's term of the argument arrays.
-/
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Out

open Cert.Kernel7Ideal Cert.Kernel7Ideal.Gen

variable (m : (ℓ : Loc nD τ sig) → Buf (Elt Ideal) ℓ)

/-- What the reference computes from the layer's input and the projection's weights. -/
abbrev ref (h : FVec Ideal S16384x2048 .bf16) (w : FVec Ideal S1x2048x10272 .f32) : FVec Ideal S16384x128 .f32 :=
  Cert.Reference7Ideal.Read.val_main_v4 (F := Ideal) h w

/-- The block each window reads or writes at a grid point. -/
theorem idx : ∀ t : Fin cfg0.N, win0_0.index t = ![t.val, 0] ∧ win0_1.index t = ![0, 0]
    ∧ win0_2.index t = ![t.val, 0] :=
  (by decide +kernel : ∀ t : Fin grid0.N, _)

/-- The weights as the kernel's blocks read them: the columns dt, and zeros beside them. -/
abbrev prep (w : FVec Ideal S1x2048x10272 .f32) : FVec Ideal S2048x128 .bf16 :=
  truncf .bf16 (pad S2048x128 ![0, 0] ![0, 96] ![0, 0] (extractStridedSlice S2048x32 ![0, 6144] (shapeCast S2048x10272 w
      shapeCasts_S1x2048x10272_S2048x10272) slices_S2048x10272_S2048x32_0_6144)
    (sitofp (F := Ideal) .f32 (constantI S_ 32 0#32)) pads_S2048x32_S2048x128_000_0960 h_S_) bitsLt_bf16_f32

theorem weights (c : Dev nD) : V m c main_v3 = prep (m ((c : Thread nD τ).loc main_arg1)) := by
  simp only [V, hostOps0, hostOps0_1, hostOps0_2, List.flatten_cons, List.flatten_nil, List.append_nil, List.cons_append,
    List.nil_append]
  after_results <;> rfl

/-- The block of weights a grid point reads. -/
theorem wblk (c : Dev nD) (t : Fin cfg0.N) :
    iblk m c 1 t = fun i : S2048x128.Idx => prep (m ((c : Thread nD τ).loc main_arg1)) (((cfg0.win 1).blk t).view.emb i) := by
  funext i
  exact congrFun (weights m c) _

/-- The padding is zero. -/
theorem padding : FloatOps.sitofp (F := Ideal) .f32 (0#32) = (0 : EReal) := by
  show (((0#32 : BitVec 32).toInt : ℝ) : EReal) = 0
  simp

/-- One element of the block a grid point writes is the reference's element there. -/
theorem point (c : Dev nD) (t : Fin cfg0.N) (y : S1024x128.Idx) :
    k0_pay1 (iblk m c 0 t) (iblk m c 1 t) y
      = ref (m ((c : Thread nD τ).loc main_arg0)) (m ((c : Thread nD τ).loc main_arg1)) (((cfg0.win 2).blk t).view.emb y) := by
  rw [wblk, ref, ← Cert.Reference7Ideal.Read.val_main_v4_eq]
  pointwise [k0_pay1, prep]
  blk_simp [idx t]
  by_cases h : (y 1).val < 32 <;> simp only [h, ↓reduceDIte]
  · blk_point [iblk, V, idx t]
  · simp only [padding]
    exact (Finset.sum_congr rfl fun _ _ => mul_zero _).trans Finset.sum_const_zero

/-- The kernel's output array after the run is the reference's array. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel7Ideal.Out

end
-- ==== Proof.GmlpStrip.lean ====
/-
  The spatial gating: what the kernel's stores of one chunk of 128 rows and one group of 128 columns hold, element by element.
-/
module

public import proofs.«01_k».proof.Proof.Gen.Kernel8Ideal.Value
public import Idealize.ShloMosaic.Lib.Pipeline.ValueKit

@[expose] public section

set_option maxRecDepth 16384

noncomputable section

open Idealize.ShloMosaic Idealize.ShloMosaic.TcCoe Idealize.SL.Sem
open scoped BigOperators

namespace Cert.Kernel8Ideal.Gate

open Cert.Kernel8Ideal Cert.Kernel8Ideal.Gen

/-- The gelu of a number. -/
def gelu (a : EReal) : EReal :=
  Ideal.ofBits .f32 0x3F000000#32 * a * (1 + Ideal.erf (a * Ideal.ofBits .f32 0x3F3504F3#32))

/-- A row's gelus less their mean. -/
def centred (row : Fin 2048 → EReal) (j : Fin 2048) : EReal :=
  gelu (row j) - Ideal.div (∑ k, gelu (row k)) (Ideal.ofBits .f32 0x45000000#32)

/-- A row's gelus, normalized to mean zero and unit variance. -/
def normal (row : Fin 2048 → EReal) (j : Fin 2048) : EReal :=
  centred row j * Ideal.rsqrt (Ideal.div (∑ k, centred row k * centred row k) (Ideal.ofBits .f32 0x45000000#32)
    + Ideal.ofBits .f32 0x358637BD#32)

/-- One element of the result: the gelu of u times the row's mix of the group's earlier normalized rows. -/
def gated (u : EReal) (r : Fin 128) (W N : Fin 128 → EReal) (b : EReal) : EReal :=
  gelu u * (∑ k : Fin 128, (if k.val ≤ r.val then W k * N k else 0) + b)

theorem gelu_apply (U : Vec Ideal S128x2048 .bf16) (i : S128x2048.Idx) : k0_pay2 U i = gelu (U i) := by
  pointwise [k0_pay2]
  rfl

theorem normal_apply (V : Vec Ideal S128x2048 .bf16) (G B : Vec Ideal S1x2048 .f32) (r : Fin 128) (j : Fin 2048) :
    k0_pay5 (k0_pay3 V) (k0_pay4 G) B (ix2 r j)
      = normal (fun l => V (ix2 r l)) j * G (ix2 0 j) + B (ix2 0 j) := by
  pointwise [k0_pay5, k0_pay3, k0_pay4]
  rfl

/-- One store of the kernel: the chunk's gelus of u times the mixed rows of v, in the group of columns that begins at `o`. -/
def strip (o : ℕ) (h : S128x2048.Slices ![0, o] S128x128) (U V : Vec Ideal S128x2048 .bf16) (G B : Vec Ideal S1x2048 .f32)
    (W : Vec Ideal S1x128x128 .f32) (b : Vec Ideal S128x128 .f32) : FVec Ideal S128x128 .bf16 :=
  truncf .bf16 (mulf (extractStridedSlice S128x128 ![0, o] (k0_pay2 U) h)
    (addf (matmul dot_S128x128_S128x128_S128x128_1_0_0_1_n_n none
        (truncf .bf16 (select k0_pay1 (shapeCast S128x128 W shapeCasts_S1x128x128_S128x128)
          (broadcast S128x128 (Scalar.ofBits .f32 0x00000000#32))) bitsLt_bf16_f32)
        (extractStridedSlice S128x128 ![0, o] (k0_pay5 (k0_pay3 V) (k0_pay4 G) B) h)
        (constant S128x128 .f32 0x00000000#32))
      (shapeCast S128x128 b shapeCasts_S128x128_S128x128))) bitsLt_bf16_f32

/-- The comparison of two small row numbers chooses as the numbers do. -/
theorem sel (a b : Fin 128) (x y : EReal) :
    Scalar.select (IntOp.cmpi .sle (BitVec.ofNat 32 a.val) (BitVec.ofNat 32 b.val)) x y = if a.val ≤ b.val then x else y := by
  rw [WordCmp.cmpi_sle_of_lt (by simp; omega) (by simp; omega)]
  have ha : (BitVec.ofNat 32 a.val).toNat = a.val := by simp; omega
  have hb : (BitVec.ofNat 32 b.val).toNat = b.val := by simp; omega
  rw [ha, hb]
  by_cases h : a.val ≤ b.val <;> simp [h, Scalar.select]

theorem strip_at (o : ℕ) (h : S128x2048.Slices ![0, o] S128x128) (U V : Vec Ideal S128x2048 .bf16)
    (G B : Vec Ideal S1x2048 .f32) (W : Vec Ideal S1x128x128 .f32) (b : Vec Ideal S128x128 .f32) (r q : Fin 128)
    (hj : o + q.val < 2048) :
    strip o h U V G B W b (ix2 r q) = gated (U (ix2 r ⟨o + q.val, hj⟩)) r (fun k => W (ix3 0 r k))
      (fun k => normal (fun l => V (ix2 k l)) ⟨o + q.val, hj⟩ * G (ix2 0 ⟨o + q.val, hj⟩)
        + B (ix2 0 ⟨o + q.val, hj⟩)) (b (ix2 r q)) := by
  unfold gated
  have e : ∀ k : Fin 128, (if k.val ≤ r.val then W (ix3 0 r k) * (normal (fun l => V (ix2 k l)) ⟨o + q.val, hj⟩ * G (ix2 0 ⟨o + q.val, hj⟩)
        + B (ix2 0 ⟨o + q.val, hj⟩)) else 0)
      = Scalar.select (IntOp.cmpi .sle (BitVec.ofNat 32 k.val) (BitVec.ofNat 32 r.val))
          (W (ix3 0 r k) * k0_pay5 (k0_pay3 V) (k0_pay4 G) B (ix2 k ⟨o + q.val, hj⟩)) 0 := fun k => by
    rw [normal_apply, sel]
  rw [← gelu_apply, Finset.sum_congr rfl fun k _ => e k]
  pointwise [strip, k0_pay1]

/-- A store of the kernel, element by element. -/
theorem strip_apply (o : ℕ) (h : S128x2048.Slices ![0, o] S128x128) (U V : Vec Ideal S128x2048 .bf16)
    (G B : Vec Ideal S1x2048 .f32) (W : Vec Ideal S1x128x128 .f32) (b : Vec Ideal S128x128 .f32) (r q : Fin 128) (j : Fin 2048)
    (hj : j.val = o + q.val) :
    strip o h U V G B W b (ix2 r q) = gated (U (ix2 r j)) r (fun k => W (ix3 0 r k))
      (fun k => normal (fun l => V (ix2 k l)) j * G (ix2 0 j) + B (ix2 0 j)) (b (ix2 r q)) := by
  obtain ⟨j, hlt⟩ := j
  obtain rfl : j = o + q.val := hj
  exact strip_at o h U V G B W b r q hlt

end Cert.Kernel8Ideal.Gate

end
-- ==== Proof.GmlpBlock.lean ====
/-
  The spatial gating: what the kernel's 32 stores leave in its output block at one grid point, element by element.
-/
module

public import proofs.«01_k».proof.Proof.GmlpStrip

@[expose] public section

set_option maxRecDepth 16384

noncomputable section

open Idealize.ShloMosaic Idealize.ShloMosaic.TcCoe Idealize.SL.Sem
open scoped BigOperators

namespace Cert.Kernel8Ideal.Gate

open Cert.Kernel8Ideal Cert.Kernel8Ideal.Gen

/-- The block's elements, from the blocks of u and v, the norm's weights and biases, the mixing weights and the mixing biases. -/
def blk (x0 x1 : Vec Ideal S256x2048 .bf16) (x2 x3 : Vec Ideal S1x2048 .f32) (x4 : Vec Ideal S16x128x128 .f32)
    (x5 : Vec Ideal S128x2048 .f32) (y : S256x2048.Idx) : EReal :=
  gated (x0 y) ⟨(y 0).val % 128, by omega⟩
    (fun k => x4 (ix3 ⟨(y 1).val / 128, by have h : (y 1).val < 2048 := (y 1).isLt; omega⟩ ⟨(y 0).val % 128, by omega⟩ k))
    (fun k => normal (fun l => x1 (ix2 ⟨(y 0).val / 128 * 128 + k.val, by have h : (y 0).val < 256 := (y 0).isLt; omega⟩ l)) (y 1)
      * x2 (ix2 0 (y 1)) + x3 (ix2 0 (y 1)))
    (x5 (ix2 ⟨(y 0).val % 128, by omega⟩ (y 1)))

theorem gated_congr {u u' : EReal} {r r' : Fin 128} {W W' N N' : Fin 128 → EReal} {b b' : EReal} (hu : u = u') (hr : r = r')
    (hW : ∀ k, W k = W' k) (hN : ∀ k, N k = N' k) (hb : b = b') : gated u r W N b = gated u' r' W' N' b' := by
  rw [hu, hr, hb, funext hW, funext hN]

/-- The store of chunk `n` and group `g` holds the block's elements there. -/
theorem piece (x0 x1 : Vec Ideal S256x2048 .bf16) (x2 x3 : Vec Ideal S1x2048 .f32) (x4 : Vec Ideal S16x128x128 .f32)
    (x5 : Vec Ideal S128x2048 .f32) (n g c o : ℕ) (hn : n < 2) (hg : g < 16) (hc : c = 128 * n) (ho : o = 128 * g)
    (h : S128x2048.Slices ![0, o] S128x128)
    (hu : ∀ a, (![c, 0] : Fin 2 → Nat) a + S128x2048.size a ≤ S256x2048.size a)
    (hw : ∀ a, (![g, 0, 0] : Fin 3 → Nat) a + S1x128x128.size a ≤ S16x128x128.size a)
    (hb : ∀ a, (![0, o] : Fin 2 → Nat) a + S128x128.size a ≤ S128x2048.size a)
    (hout : ∀ a, (![c, o] : Fin 2 → Nat) a + S128x128.size a ≤ S256x2048.size a) (x : S128x128.Idx) :
    strip o h (View.ld x0 (Rect.unit (s := S256x2048) ![c, 0] S128x2048.size hu))
        (View.ld x1 (Rect.unit (s := S256x2048) ![c, 0] S128x2048.size hu)) (View.ld x2 r0_1) (View.ld x3 r0_1)
        (View.ld x4 (Rect.unit (s := S16x128x128) ![g, 0, 0] S1x128x128.size hw))
        (View.ld x5 (Rect.unit (s := S128x2048) ![0, o] S128x128.size hb)) x
      = blk x0 x1 x2 x3 x4 x5 ((Rect.unit (s := S256x2048) ![c, o] S128x128.size hout).emb x) := by
  obtain ⟨r, q, rfl⟩ : ∃ r q : Fin 128, x = ix2 r q := ⟨x 0, x 1, by funext a; match a with | ⟨0, _⟩ => rfl | ⟨1, _⟩ => rfl⟩
  have hr : r.val < 128 := r.isLt
  have hq : q.val < 128 := q.isLt
  generalize hy : (Rect.unit (s := S256x2048) ![c, o] S128x128.size hout).emb (ix2 r q) = y
  have y0 : (y 0).val = c + r.val := by rw [← hy]; exact congrArg (c + ·) (Nat.one_mul _)
  have y1 : (y 1).val = o + q.val := by rw [← hy]; exact congrArg (o + ·) (Nat.one_mul _)
  rw [strip_apply o h _ _ _ _ _ _ r q (y 1) y1]
  unfold blk
  have e0 : (y 0).val % 128 = r.val := by omega
  have e1 : (y 1).val / 128 = g := by omega
  have e2 : (y 0).val / 128 * 128 = c := by omega
  have one : ∀ z : Vec Ideal S1x2048 .f32, (View.ld z r0_1 : Vec Ideal S1x2048 .f32) (ix2 0 (y 1)) = z (ix2 0 (y 1)) := fun z =>
    congrArg z (funext fun a => Fin.ext (by
      match a with
      | ⟨0, _⟩ => rfl
      | ⟨1, _⟩ => exact (Nat.zero_add _).trans (Nat.one_mul _)))
  have row : ∀ z : Vec Ideal S256x2048 .bf16, ∀ (k : Fin 128) (l : Fin 2048) (w : Fin 256), w.val = c + k.val →
      (View.ld z (Rect.unit (s := S256x2048) ![c, 0] S128x2048.size hu) : Vec Ideal S128x2048 .bf16) (ix2 k l) = z (ix2 w l) := fun z k l w hw =>
    congrArg z (funext fun a => Fin.ext (by
      match a with
      | ⟨0, _⟩ => exact (congrArg (c + ·) (Nat.one_mul _)).trans hw.symm
      | ⟨1, _⟩ => exact (Nat.zero_add _).trans (Nat.one_mul _)))
  refine gated_congr ?_ (Fin.ext e0.symm) (fun k => ?_) (fun k => ?_) ?_
  · refine (row x0 r (y 1) (y 0) y0).trans (congrArg x0 ?_)
    funext a
    match a with
    | ⟨0, _⟩ => rfl
    | ⟨1, _⟩ => rfl
  · refine congrArg x4 (funext fun a => Fin.ext ?_)
    match a with
    | ⟨0, _⟩ => exact e1.symm
    | ⟨1, _⟩ => exact ((Nat.zero_add _).trans (Nat.one_mul _)).trans e0.symm
    | ⟨2, _⟩ => exact (Nat.zero_add _).trans (Nat.one_mul _)
  · rw [one, one]
    refine congrArg (fun f : Fin 2048 → EReal => normal f (y 1) * x2 (ix2 0 (y 1)) + x3 (ix2 0 (y 1))) (funext fun l => ?_)
    exact row x1 k l _ (congrArg (· + k.val) e2)
  · refine congrArg x5 (funext fun a => Fin.ext ?_)
    match a with
    | ⟨0, _⟩ => exact ((Nat.zero_add _).trans (Nat.one_mul _)).trans e0.symm
    | ⟨1, _⟩ => exact (congrArg (o + ·) (Nat.one_mul _)).trans y1.symm

/-- What the kernel leaves in its output block, element by element. -/
theorem out_apply (x0 x1 : Vec Ideal S256x2048 .bf16) (x2 x3 : Vec Ideal S1x2048 .f32) (x4 : Vec Ideal S16x128x128 .f32)
    (x5 : Vec Ideal S128x2048 .f32) (y : S256x2048.Idx) : out0_6 x0 x1 x2 x3 x4 x5 y = blk x0 x1 x2 x3 x4 x5 y := by
  unfold out0_6
  refine View.canon_apply_of_pieces (Val := Elt Ideal) (blk x0 x1 x2 x3 x4 x5) _ ?_ y (cover0_6 _ _ _ _ _ _ _ _ _ _ _ _ _ _ _ _ _ _ _ _ _ _ _ _ _ _ _ _ _ _ _ _ y)
  simp only [List.forall_mem_cons]
  refine ⟨fun x => piece x0 x1 x2 x3 x4 x5 1 15 128 1920 (by decide) (by decide) (by decide) (by decide) slices_S128x2048_o0_1920_S128x128 _ _ _ _ x,
    fun x => piece x0 x1 x2 x3 x4 x5 1 14 128 1792 (by decide) (by decide) (by decide) (by decide) slices_S128x2048_o0_1792_S128x128 _ _ _ _ x,
    fun x => piece x0 x1 x2 x3 x4 x5 1 13 128 1664 (by decide) (by decide) (by decide) (by decide) slices_S128x2048_o0_1664_S128x128 _ _ _ _ x,
    fun x => piece x0 x1 x2 x3 x4 x5 1 12 128 1536 (by decide) (by decide) (by decide) (by decide) slices_S128x2048_o0_1536_S128x128 _ _ _ _ x,
    fun x => piece x0 x1 x2 x3 x4 x5 1 11 128 1408 (by decide) (by decide) (by decide) (by decide) slices_S128x2048_o0_1408_S128x128 _ _ _ _ x,
    fun x => piece x0 x1 x2 x3 x4 x5 1 10 128 1280 (by decide) (by decide) (by decide) (by decide) slices_S128x2048_o0_1280_S128x128 _ _ _ _ x,
    fun x => piece x0 x1 x2 x3 x4 x5 1 9 128 1152 (by decide) (by decide) (by decide) (by decide) slices_S128x2048_o0_1152_S128x128 _ _ _ _ x,
    fun x => piece x0 x1 x2 x3 x4 x5 1 8 128 1024 (by decide) (by decide) (by decide) (by decide) slices_S128x2048_o0_1024_S128x128 _ _ _ _ x,
    fun x => piece x0 x1 x2 x3 x4 x5 1 7 128 896 (by decide) (by decide) (by decide) (by decide) slices_S128x2048_o0_896_S128x128 _ _ _ _ x,
    fun x => piece x0 x1 x2 x3 x4 x5 1 6 128 768 (by decide) (by decide) (by decide) (by decide) slices_S128x2048_o0_768_S128x128 _ _ _ _ x,
    fun x => piece x0 x1 x2 x3 x4 x5 1 5 128 640 (by decide) (by decide) (by decide) (by decide) slices_S128x2048_o0_640_S128x128 _ _ _ _ x,
    fun x => piece x0 x1 x2 x3 x4 x5 1 4 128 512 (by decide) (by decide) (by decide) (by decide) slices_S128x2048_o0_512_S128x128 _ _ _ _ x,
    fun x => piece x0 x1 x2 x3 x4 x5 1 3 128 384 (by decide) (by decide) (by decide) (by decide) slices_S128x2048_o0_384_S128x128 _ _ _ _ x,
    fun x => piece x0 x1 x2 x3 x4 x5 1 2 128 256 (by decide) (by decide) (by decide) (by decide) slices_S128x2048_o0_256_S128x128 _ _ _ _ x,
    fun x => piece x0 x1 x2 x3 x4 x5 1 1 128 128 (by decide) (by decide) (by decide) (by decide) slices_S128x2048_o0_128_S128x128 _ _ _ _ x,
    fun x => piece x0 x1 x2 x3 x4 x5 1 0 128 0 (by decide) (by decide) (by decide) (by decide) slices_S128x2048_o0_0_S128x128 _ _ _ _ x,
    fun x => piece x0 x1 x2 x3 x4 x5 0 15 0 1920 (by decide) (by decide) (by decide) (by decide) slices_S128x2048_o0_1920_S128x128 _ _ _ _ x,
    fun x => piece x0 x1 x2 x3 x4 x5 0 14 0 1792 (by decide) (by decide) (by decide) (by decide) slices_S128x2048_o0_1792_S128x128 _ _ _ _ x,
    fun x => piece x0 x1 x2 x3 x4 x5 0 13 0 1664 (by decide) (by decide) (by decide) (by decide) slices_S128x2048_o0_1664_S128x128 _ _ _ _ x,
    fun x => piece x0 x1 x2 x3 x4 x5 0 12 0 1536 (by decide) (by decide) (by decide) (by decide) slices_S128x2048_o0_1536_S128x128 _ _ _ _ x,
    fun x => piece x0 x1 x2 x3 x4 x5 0 11 0 1408 (by decide) (by decide) (by decide) (by decide) slices_S128x2048_o0_1408_S128x128 _ _ _ _ x,
    fun x => piece x0 x1 x2 x3 x4 x5 0 10 0 1280 (by decide) (by decide) (by decide) (by decide) slices_S128x2048_o0_1280_S128x128 _ _ _ _ x,
    fun x => piece x0 x1 x2 x3 x4 x5 0 9 0 1152 (by decide) (by decide) (by decide) (by decide) slices_S128x2048_o0_1152_S128x128 _ _ _ _ x,
    fun x => piece x0 x1 x2 x3 x4 x5 0 8 0 1024 (by decide) (by decide) (by decide) (by decide) slices_S128x2048_o0_1024_S128x128 _ _ _ _ x,
    fun x => piece x0 x1 x2 x3 x4 x5 0 7 0 896 (by decide) (by decide) (by decide) (by decide) slices_S128x2048_o0_896_S128x128 _ _ _ _ x,
    fun x => piece x0 x1 x2 x3 x4 x5 0 6 0 768 (by decide) (by decide) (by decide) (by decide) slices_S128x2048_o0_768_S128x128 _ _ _ _ x,
    fun x => piece x0 x1 x2 x3 x4 x5 0 5 0 640 (by decide) (by decide) (by decide) (by decide) slices_S128x2048_o0_640_S128x128 _ _ _ _ x,
    fun x => piece x0 x1 x2 x3 x4 x5 0 4 0 512 (by decide) (by decide) (by decide) (by decide) slices_S128x2048_o0_512_S128x128 _ _ _ _ x,
    fun x => piece x0 x1 x2 x3 x4 x5 0 3 0 384 (by decide) (by decide) (by decide) (by decide) slices_S128x2048_o0_384_S128x128 _ _ _ _ x,
    fun x => piece x0 x1 x2 x3 x4 x5 0 2 0 256 (by decide) (by decide) (by decide) (by decide) slices_S128x2048_o0_256_S128x128 _ _ _ _ x,
    fun x => piece x0 x1 x2 x3 x4 x5 0 1 0 128 (by decide) (by decide) (by decide) (by decide) slices_S128x2048_o0_128_S128x128 _ _ _ _ x,
    fun x => piece x0 x1 x2 x3 x4 x5 0 0 0 0 (by decide) (by decide) (by decide) (by decide) slices_S128x2048_o0_0_S128x128 _ _ _ _ x, fun _ h => absurd h List.not_mem_nil⟩

end Cert.Kernel8Ideal.Gate

end
-- ==== Proof.GmlpRef.lean ====
/-
  The spatial gating: the reference's array, element by element.
-/
module

public import proofs.«01_k».proof.Proof.GmlpStrip
public import proofs.«01_k».proof.Proof.Gen.Reference8Ideal.Read
public import Idealize.ShloMosaic.PureOps.Ideal.Laws

@[expose] public section

set_option maxRecDepth 16384

noncomputable section

open Idealize.ShloMosaic Idealize.ShloMosaic.TcCoe Idealize.SL.Sem
open scoped BigOperators

namespace Cert.Reference8Ideal.Gate

open Cert.Reference8Ideal Cert.Reference8Ideal.Gen Cert.Reference8Ideal.Read
open Cert.Kernel8Ideal.Gate (gelu centred normal gated)

/-- The columns of v in a row. -/
def vrow (X : FVec Ideal S16384x10240 .bf16) (t : Fin 16384) (l : Fin 2048) : EReal := X (ix2 t ⟨8192 + l.val, by omega⟩)

theorem gelu_erfc (a : EReal) :
    Ideal.ofBits .f32 0x3F000000#32 * a * Ideal.erfc (-a * Ideal.ofBits .f32 0x3F3504F3#32) = gelu a := by
  rw [EReal.neg_mul, Ideal.erfc_neg]
  rfl

theorem ref_u (X : FVec Ideal S16384x10240 .bf16) (t : Fin 16384) (j : Fin 2048) :
    val_main_v8 (F := Ideal) X (ix2 t j) = gelu (X (ix2 t ⟨6144 + j.val, by omega⟩)) := by
  refine Eq.trans ?_ (gelu_erfc _)
  pointwise [val_main_v8, val_main_v7, val_main_v6, val_main_v5, val_main_v4, val_main_v3, val_main_v2, val_main_v1, val_main_v0, val_main_cst, val_main_cst_0]

theorem ref_v (X : FVec Ideal S16384x10240 .bf16) (t : Fin 16384) (j : Fin 2048) :
    val_main_v16 (F := Ideal) X (ix2 t j) = gelu (vrow X t j) := by
  refine Eq.trans ?_ (gelu_erfc _)
  unfold vrow
  pointwise [val_main_v16, val_main_v15, val_main_v14, val_main_v13, val_main_v12, val_main_v11, val_main_v10, val_main_v9, val_main_v0, val_main_cst_1, val_main_cst_2]

theorem ref_centred (X : FVec Ideal S16384x10240 .bf16) (t : Fin 16384) (j : Fin 2048) :
    val_main_v22 (F := Ideal) X (ix2 t j) = centred (vrow X t) j := by
  unfold centred
  simp_rw [← ref_v]
  unfold val_main_v22 val_main_v21 val_main_v20 val_main_v18 val_main_v17
  generalize val_main_v16 (F := Ideal) X = z
  pointwise [val_main_v19, val_main_cst_4, val_main_cst_3]

theorem ref_normal (X : FVec Ideal S16384x10240 .bf16) (t : Fin 16384) (j : Fin 2048) :
    val_main_v32 (F := Ideal) X (ix2 t j) = normal (vrow X t) j := by
  unfold normal
  simp_rw [← ref_centred]
  unfold val_main_v32 val_main_v31 val_main_v30 val_main_v29 val_main_v27 val_main_v25 val_main_v24 val_main_v23
  generalize val_main_v22 (F := Ideal) X = z
  pointwise [val_main_v28, val_main_v26, val_main_cst_5, val_main_cst_6, val_main_cst_7]

theorem ref_norm (X : FVec Ideal S16384x10240 .bf16) (G B : FVec Ideal S1x2048 .f32) (t : Fin 16384) (j : Fin 2048) :
    val_main_v40 (F := Ideal) X G B (ix2 t j) = normal (vrow X t) j * G (ix2 0 j) + B (ix2 0 j) := by
  rw [← ref_normal]
  unfold val_main_v40 val_main_v36
  generalize val_main_v32 (F := Ideal) X = z
  pointwise [val_main_v39, val_main_v38, val_main_v37, val_main_v35, val_main_v34, val_main_v33]

/-- The reference's lower triangle of ones. -/
theorem ref_tril (r k : Fin 128) : val_main_v44 (F := Ideal) (ix2 r k) = if k.val ≤ r.val then 1 else 0 := by
  refine Eq.trans ?_ (Cert.Kernel8Ideal.Gate.sel k r 1 0)
  pointwise [val_main_v44, val_main_call0_v0, val_main_call0_c, val_main_call0_v1, val_main_call0_v2, val_main_call0_v3,
    val_main_call0_v4, val_main_call0_cst, val_main_call0_v5, val_main_v43, val_main_cst_8]
  rw [show IntOp.addi (BitVec.ofNat 32 r.val) 0#32 = BitVec.ofNat 32 r.val from BitVec.add_zero _]
  rfl

/-- The masked mixing weights. -/
theorem ref_w (W : FVec Ideal S1x16x128x128 .f32) (g : Fin 16) (r k : Fin 128) :
    val_main_v47 (F := Ideal) W (ix3 g r k) = W (ix4 0 g r k) * (if k.val ≤ r.val then 1 else 0) := by
  rw [← ref_tril]
  unfold val_main_v47 val_main_v46 val_main_v45
  generalize val_main_v44 (F := Ideal) = z
  pointwise [val_main_v42]

/-- The mixing biases. -/
theorem ref_b (b : FVec Ideal S1x16x128 .f32) (n : Fin 128) (r : Fin 128) (g : Fin 16) (c : Fin 128) :
    val_main_v54 (F := Ideal) b (ix4 n r g c) = b (ix3 0 g r) := by
  pointwise [val_main_v54, val_main_v53, val_main_v52, val_main_v51, val_main_v50]

/-- The normalized rows, in chunks and groups. -/
theorem ref_chunk (X : FVec Ideal S16384x10240 .bf16) (G B : FVec Ideal S1x2048 .f32) (n k : Fin 128) (g : Fin 16) (c : Fin 128) :
    val_main_v41 (F := Ideal) X G B (ix4 n k g c)
      = normal (vrow X ⟨128 * n.val + k.val, by omega⟩) ⟨128 * g.val + c.val, by omega⟩
          * G (ix2 0 ⟨128 * g.val + c.val, by omega⟩) + B (ix2 0 ⟨128 * g.val + c.val, by omega⟩) := by
  rw [← ref_norm]
  unfold val_main_v41
  generalize val_main_v40 (F := Ideal) X G B = z
  pointwise
  simp only [Nat.mul_comm _ 128]

/-- The spatial gating of every row and column, from the input projection, the norm's weights and biases, the mixing
    weights and the mixing biases. -/
def gate (X : FVec Ideal S16384x10240 .bf16) (G B : FVec Ideal S1x2048 .f32) (W : FVec Ideal S1x16x128x128 .f32)
    (b : FVec Ideal S1x16x128 .f32) : FVec Ideal S16384x2048 .bf16 := fun i =>
  gated (X (ix2 (i 0) ⟨6144 + (i 1).val, by have h : (i 1).val < 2048 := (i 1).isLt; omega⟩)) ⟨(i 0).val % 128, by omega⟩
    (fun k => W (ix4 0 ⟨(i 1).val / 128, by have h : (i 1).val < 2048 := (i 1).isLt; omega⟩ ⟨(i 0).val % 128, by omega⟩ k))
    (fun k => normal (vrow X ⟨(i 0).val / 128 * 128 + k.val, by have h : (i 0).val < 16384 := (i 0).isLt; omega⟩) (i 1)
      * G (ix2 0 (i 1)) + B (ix2 0 (i 1)))
    (b (ix3 0 ⟨(i 1).val / 128, by have h : (i 1).val < 2048 := (i 1).isLt; omega⟩ ⟨(i 0).val % 128, by omega⟩))

/-- The rows' mix of one chunk and group. -/
theorem ref_mix (X : FVec Ideal S16384x10240 .bf16) (G B : FVec Ideal S1x2048 .f32) (W : FVec Ideal S1x16x128x128 .f32)
    (b : FVec Ideal S1x16x128 .f32) (n r : Fin 128) (g : Fin 16) (c : Fin 128) :
    val_main_v55 (F := Ideal) X G B W b (ix4 n r g c)
      = ∑ k : Fin 128, (if k.val ≤ r.val then W (ix4 0 g r k)
          * (normal (vrow X ⟨128 * n.val + k.val, by omega⟩) ⟨128 * g.val + c.val, by omega⟩
            * G (ix2 0 ⟨128 * g.val + c.val, by omega⟩) + B (ix2 0 ⟨128 * g.val + c.val, by omega⟩)) else 0) + b (ix3 0 g r) := by
  rw [val_main_v55_apply, ref_b, val_main_v49_apply, val_main_v48_apply]
  refine congrArg (fun z : EReal => z + b (ix3 0 g r)) (Finset.sum_congr rfl fun k _ => ?_)
  have e1 : lidx_main_v48 (idx_main_v49 (ix4 n r g c)) k = ix4 n k g c := by
    funext a; match a with | ⟨0, _⟩ => rfl | ⟨1, _⟩ => rfl | ⟨2, _⟩ => rfl | ⟨3, _⟩ => rfl
  have e2 : ridx_main_v48 (idx_main_v49 (ix4 n r g c)) k = ix3 g r k := by
    funext a; match a with | ⟨0, _⟩ => rfl | ⟨1, _⟩ => rfl | ⟨2, _⟩ => rfl
  rw [e1, e2, ref_chunk, ref_w]
  by_cases h : k.val ≤ r.val
  · rw [if_pos h, if_pos h, mul_one, mul_comm]
  · rw [if_neg h, if_neg h, mul_zero, mul_zero]

/-- The reference's array is the spatial gating. -/
theorem ref_eq (X : FVec Ideal S16384x10240 .bf16) (G B : FVec Ideal S1x2048 .f32) (W : FVec Ideal S1x16x128x128 .f32)
    (b : FVec Ideal S1x16x128 .f32) : val_main_v58 (F := Ideal) X G B W b = gate X G B W b := by
  funext i
  obtain ⟨t, j, rfl⟩ : ∃ (t : Fin 16384) (j : Fin 2048), i = ix2 t j := ⟨i 0, i 1, by funext a; match a with | ⟨0, _⟩ => rfl | ⟨1, _⟩ => rfl⟩
  have ht : t.val < 16384 := t.isLt
  have hj : j.val < 2048 := j.isLt
  have e : idx_main_v56 (ix2 t j) = ix4 (⟨t.val / 128, by omega⟩ : Fin 128) (⟨t.val % 128, by omega⟩ : Fin 128)
      (⟨j.val / 128, by omega⟩ : Fin 16) (⟨j.val % 128, by omega⟩ : Fin 128) := by
    funext a
    refine Fin.ext ?_
    match a with
    | ⟨0, _⟩ => show (t.val * 2048 + j.val) / 262144 = t.val / 128; omega
    | ⟨1, _⟩ => show (t.val * 2048 + j.val) / 2048 % 128 = t.val % 128; omega
    | ⟨2, _⟩ => show (t.val * 2048 + j.val) / 128 % 16 = j.val / 128; omega
    | ⟨3, _⟩ => show (t.val * 2048 + j.val) % 128 = j.val % 128; omega
  have ej : (⟨128 * (j.val / 128) + j.val % 128, by omega⟩ : Fin 2048) = j := Fin.ext (by show 128 * (j.val / 128) + j.val % 128 = j.val; omega)
  have et : ∀ k : Fin 128, (⟨128 * (t.val / 128) + k.val, by omega⟩ : Fin 16384) = ⟨t.val / 128 * 128 + k.val, by omega⟩ := fun k =>
    Fin.ext (by show 128 * (t.val / 128) + k.val = t.val / 128 * 128 + k.val; omega)
  refine (val_main_v57_apply (F := Ideal) X G B W b (ix2 t j)).trans ?_
  rw [ref_u, val_main_v56_apply, e, ref_mix]
  simp only [ej, et]
  rfl

end Cert.Reference8Ideal.Gate

end
-- ==== Proof.Gmlp.lean ====
/-
  The spatial gating of the first layer: the kernel's output array is the reference's term of the argument arrays.
-/
module

public import proofs.«01_k».proof.Proof.GmlpBlock
public import proofs.«01_k».proof.Proof.GmlpRef

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Out

open Cert.Kernel8Ideal Cert.Kernel8Ideal.Gen Cert.Kernel8Ideal.Gate
open Cert.Reference8Ideal.Gate (vrow gate)

variable (m : (ℓ : Loc nD τ sig) → Buf (Elt Ideal) ℓ)

/-- The block each window reads or writes at a grid point. -/
theorem idx : ∀ t : Fin cfg0.N, win0_0.index t = ![t.val, 3] ∧ win0_1.index t = ![t.val, 4] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

/-- The mixing weights, as the kernel reads them. -/
abbrev prepW (W : FVec Ideal S1x16x128x128 .f32) : FVec Ideal S16x128x128 .f32 := shapeCast S16x128x128 W shapeCasts_S1x16x128x128_S16x128x128

/-- The norm's weights or biases, as the kernel reads them. -/
abbrev prepN (G : FVec Ideal S1x2048 .f32) : FVec Ideal S1x2048 .f32 :=
  shapeCast S1x2048 (shapeCast S2048 G shapeCasts_S1x2048_S2048) shapeCasts_S2048_S1x2048

/-- The mixing biases, one for each column, as the kernel reads them. -/
abbrev prepb (b : FVec Ideal S1x16x128 .f32) : FVec Ideal S128x2048 .f32 :=
  shapeCast S128x2048 (broadcastInDim S128x16x128 ![0, 1] bcast_S128x16_S128x16x128_0_1
    (transpose S128x16 [1, 0] (shapeCast S16x128 b shapeCasts_S1x16x128_S16x128) transposes_S16x128_S128x16_1_0))
    shapeCasts_S128x16x128_S128x2048

theorem hostW (c : Dev nD) : V m c main_v2 = prepW (m ((c : Thread nD τ).loc main_arg3)) := by
  unfold V
  after_results <;> rfl

theorem hostG (c : Dev nD) : V m c main_v7 = prepN (m ((c : Thread nD τ).loc main_arg1)) := by
  unfold V
  after_results <;> rfl

theorem hostB (c : Dev nD) : V m c main_v8 = prepN (m ((c : Thread nD τ).loc main_arg2)) := by
  unfold V
  after_results <;> rfl

theorem hostb (c : Dev nD) : V m c main_v6 = prepb (m ((c : Thread nD τ).loc main_arg4)) := by
  unfold V
  after_results <;> rfl

/-! ## What the blocks of weights and biases hold -/

theorem prepW_apply (W : FVec Ideal S1x16x128x128 .f32) (g : Fin 16) (r k : Fin 128) : prepW W (ix3 g r k) = W (ix4 0 g r k) := by
  pointwise

theorem prepN_apply (G : FVec Ideal S1x2048 .f32) (j : Fin 2048) : prepN G (ix2 0 j) = G (ix2 0 j) := by
  pointwise

theorem prepb_apply (b : FVec Ideal S1x16x128 .f32) (r : Fin 128) (j : Fin 2048) :
    prepb b (ix2 r j) = b (ix3 0 ⟨j.val / 128, by omega⟩ r) := by
  pointwise

theorem readW (c : Dev nD) (t : Fin cfg0.N) (g : Fin 16) (r k : Fin 128) :
    (iblk m c 4 t : FVec Ideal S16x128x128 .f32) (ix3 g r k) = (m ((c : Thread nD τ).loc main_arg3) : FVec Ideal S1x16x128x128 .f32) (ix4 0 g r k) := by
  have e : (iblk m c 4 t : FVec Ideal S16x128x128 .f32) (ix3 g r k)
      = prepW (m ((c : Thread nD τ).loc main_arg3)) (((cfg0.win 4).blk t).view.emb (ix3 g r k)) := congrFun (hostW m c) _
  refine e.trans (Eq.trans (congrArg _ ?_) (prepW_apply _ g r k))
  funext a
  refine Fin.ext ?_
  match a with
  | ⟨0, _⟩ => blk_simp [idx t] <;> try omega
  | ⟨1, _⟩ => blk_simp [idx t] <;> try omega
  | ⟨2, _⟩ => blk_simp [idx t] <;> try omega

theorem readG (c : Dev nD) (t : Fin cfg0.N) (j : Fin 2048) :
    (iblk m c 2 t : FVec Ideal S1x2048 .f32) (ix2 0 j) = (m ((c : Thread nD τ).loc main_arg1) : FVec Ideal S1x2048 .f32) (ix2 0 j) := by
  have e : (iblk m c 2 t : FVec Ideal S1x2048 .f32) (ix2 0 j)
      = prepN (m ((c : Thread nD τ).loc main_arg1)) (((cfg0.win 2).blk t).view.emb (ix2 0 j)) := congrFun (hostG m c) _
  refine e.trans (Eq.trans (congrArg _ ?_) (prepN_apply _ j))
  funext a
  refine Fin.ext ?_
  match a with
  | ⟨0, _⟩ => blk_simp [idx t] <;> try omega
  | ⟨1, _⟩ => blk_simp [idx t] <;> try omega

theorem readB (c : Dev nD) (t : Fin cfg0.N) (j : Fin 2048) :
    (iblk m c 3 t : FVec Ideal S1x2048 .f32) (ix2 0 j) = (m ((c : Thread nD τ).loc main_arg2) : FVec Ideal S1x2048 .f32) (ix2 0 j) := by
  have e : (iblk m c 3 t : FVec Ideal S1x2048 .f32) (ix2 0 j)
      = prepN (m ((c : Thread nD τ).loc main_arg2)) (((cfg0.win 3).blk t).view.emb (ix2 0 j)) := congrFun (hostB m c) _
  refine e.trans (Eq.trans (congrArg _ ?_) (prepN_apply _ j))
  funext a
  refine Fin.ext ?_
  match a with
  | ⟨0, _⟩ => blk_simp [idx t] <;> try omega
  | ⟨1, _⟩ => blk_simp [idx t] <;> try omega

theorem readb (c : Dev nD) (t : Fin cfg0.N) (r : Fin 128) (j : Fin 2048) :
    (iblk m c 5 t : FVec Ideal S128x2048 .f32) (ix2 r j)
      = (m ((c : Thread nD τ).loc main_arg4) : FVec Ideal S1x16x128 .f32) (ix3 0 ⟨j.val / 128, by omega⟩ r) := by
  have e : (iblk m c 5 t : FVec Ideal S128x2048 .f32) (ix2 r j)
      = prepb (m ((c : Thread nD τ).loc main_arg4)) (((cfg0.win 5).blk t).view.emb (ix2 r j)) := congrFun (hostb m c) _
  refine e.trans (Eq.trans (congrArg _ ?_) (prepb_apply _ r j))
  funext a
  refine Fin.ext ?_
  match a with
  | ⟨0, _⟩ => blk_simp [idx t] <;> try omega
  | ⟨1, _⟩ => blk_simp [idx t] <;> try omega

/-! ## The whole array -/

theorem affine_congr {f f' : Fin 2048 → EReal} {j : Fin 2048} {g g' h h' : EReal} (hf : f = f') (hg : g = g') (hh : h = h') :
    normal f j * g + h = normal f' j * g' + h' := by rw [hf, hg, hh]

/-- One element of the block a grid point writes is the spatial gating's element there. -/
theorem point (c : Dev nD) (t : Fin cfg0.N) (y : S256x2048.Idx) :
    blk (iblk m c 0 t) (iblk m c 1 t) (iblk m c 2 t) (iblk m c 3 t) (iblk m c 4 t) (iblk m c 5 t) y
      = gate (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  have ht : t.val < 64 := t.isLt
  have hy0 : (y 0).val < 256 := (y 0).isLt
  have hy1 : (y 1).val < 2048 := (y 1).isLt
  have e0 : ((((cfg0.win 6).blk t).view.emb y) 0).val = 256 * t.val + (y 0).val := by
    blk_simp [idx t] <;> try omega
  have e1 : ((((cfg0.win 6).blk t).view.emb y) 1) = y 1 := Fin.ext (by
    blk_simp [idx t] <;> try omega)
  have er : (⟨((((cfg0.win 6).blk t).view.emb y) 0).val % 128, by omega⟩ : Fin 128) = ⟨(y 0).val % 128, by omega⟩ :=
    Fin.ext (by show ((((cfg0.win 6).blk t).view.emb y) 0).val % 128 = (y 0).val % 128; rw [e0]; omega)
  unfold blk gate
  rw [er]
  simp only [e1]
  refine gated_congr ?_ rfl (fun k => readW m c t _ _ k) (fun k => ?_) (readb m c t _ _)
  · blk_point [iblk, V, idx t]
  · refine affine_congr (funext fun l => ?_) (readG m c t (y 1)) (readB m c t (y 1))
    unfold vrow
    blk_point [iblk, V, idx t]

/-- The kernel's output array after the run is the reference's array. -/
theorem final (c : Dev nD) : (dats m 0 c).arrAt 6 (cfgs 0).N
    = gate (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  exact (out_apply _ _ _ _ _ _ _).trans (point m c t y)

end Cert.Kernel8Ideal.Out

end
-- ==== Proof.Norm.lean ====
/-
  The normalization and modulation before the first layer's mixer: the kernel's output array is the reference's term of the argument arrays.
-/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Out

open Cert.Kernel9Ideal Cert.Kernel9Ideal.Gen

variable (m : (ℓ : Loc nD τ sig) → Buf (Elt Ideal) ℓ)

/-- What the reference computes from the rows, the norm's weights of both layers, the shift and the scale. -/
abbrev ref (x : FVec Ideal S16384x2048 .f32) (g : FVec Ideal S2x2048 .f32) (s r : FVec Ideal S4x1x2048 .f32) :
    FVec Ideal S16384x2048 .bf16 :=
  Cert.Reference9Ideal.Read.val_main_v23 (F := Ideal) x g s r

/-- The block each window reads or writes at a grid point. -/
theorem idx : ∀ t : Fin cfg0.N, win0_0.index t = ![t.val, 0] ∧ win0_1.index t = ![0, 0]
    ∧ win0_2.index t = ![t.val / 8, 0, 0] ∧ win0_3.index t = ![t.val / 8, 0, 0] ∧ win0_4.index t = ![t.val, 0] :=
  (by decide +kernel : ∀ t : Fin grid0.N, _)

/-- The first layer's norm weights, as the kernel reads them. -/
abbrev prep (g : FVec Ideal S2x2048 .f32) : FVec Ideal S1x2048 .f32 :=
  shapeCast S1x2048 (shapeCast S2048 (extractStridedSlice S1x2048 ![0, 0] g slices_S2x2048_S1x2048_0_0)
    shapeCasts_S1x2048_S2048) shapeCasts_S2048_S1x2048

theorem weights (c : Dev nD) : V m c main_v2 = prep (m ((c : Thread nD τ).loc main_arg1)) := by
  unfold V
  after_results <;> rfl

/-- The block of norm weights a grid point reads. -/
theorem wblk (c : Dev nD) (t : Fin cfg0.N) :
    iblk m c 1 t = fun i : S1x2048.Idx => prep (m ((c : Thread nD τ).loc main_arg1)) (((cfg0.win 1).blk t).view.emb i) := by
  funext i
  exact congrFun (weights m c) _

/-- One element of the block a grid point writes is the reference's element there. -/
theorem point (c : Dev nD) (t : Fin cfg0.N) (y : S512x2048.Idx) :
    k0_pay1 (iblk m c 0 t) (iblk m c 1 t) (iblk m c 3 t) (iblk m c 2 t) y
      = ref (m ((c : Thread nD τ).loc main_arg0)) (m ((c : Thread nD τ).loc main_arg1))
          (m ((c : Thread nD τ).loc main_arg2)) (m ((c : Thread nD τ).loc main_arg3)) (((cfg0.win 4).blk t).view.emb y) := by
  rw [wblk, ref, ← Cert.Reference9Ideal.Read.val_main_v23_eq]
  pointwise [k0_pay1, prep]
  blk_point [iblk, V, idx t]

/-- The kernel's output array after the run is the reference's array. -/
theorem final (c : Dev nD) : (dats m 0 c).arrAt 4 (cfgs 0).N
    = ref (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.Kernel9Ideal.Out

end
-- ==== Proof.NormT.lean ====
/-
  The normalization and modulation before the first layer's experts, transposed: the kernel's output array is the reference's term of the argument arrays.
-/
module

public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Out

open Cert.Kernel10Ideal Cert.Kernel10Ideal.Gen

variable (m : (ℓ : Loc nD τ sig) → Buf (Elt Ideal) ℓ)

/-- What the reference computes from the rows, the norm's weights of both layers, the shift and the scale. -/
abbrev ref (x : FVec Ideal S16384x2048 .f32) (g : FVec Ideal S2x2048 .f32) (s r : FVec Ideal S4x1x2048 .f32) :
    FVec Ideal S2048x16384 .bf16 :=
  Cert.Reference10Ideal.Read.val_main_v24 (F := Ideal) x g s r

/-- The block each window reads or writes at a grid point. -/
theorem idx : ∀ t : Fin cfg0.N, win0_0.index t = ![t.val, 0] ∧ win0_1.index t = ![0, 0]
    ∧ win0_2.index t = ![t.val / 8, 0, 0] ∧ win0_3.index t = ![t.val / 8, 0, 0] ∧ win0_4.index t = ![0, t.val] :=
  (by decide +kernel : ∀ t : Fin grid0.N, _)

/-- The first layer's norm weights, as the kernel reads them. -/
abbrev prep (g : FVec Ideal S2x2048 .f32) : FVec Ideal S1x2048 .f32 :=
  shapeCast S1x2048 (shapeCast S2048 (extractStridedSlice S1x2048 ![0, 0] g slices_S2x2048_S1x2048_0_0)
    shapeCasts_S1x2048_S2048) shapeCasts_S2048_S1x2048

theorem weights (c : Dev nD) : V m c main_v2 = prep (m ((c : Thread nD τ).loc main_arg1)) := by
  unfold V
  after_results <;> rfl

/-- The block of norm weights a grid point reads. -/
theorem wblk (c : Dev nD) (t : Fin cfg0.N) :
    iblk m c 1 t = fun i : S1x2048.Idx => prep (m ((c : Thread nD τ).loc main_arg1)) (((cfg0.win 1).blk t).view.emb i) := by
  funext i
  exact congrFun (weights m c) _

/-- One element of the block a grid point writes is the reference's element there. -/
theorem point (c : Dev nD) (t : Fin cfg0.N) (y : S2048x512.Idx) :
    k0_pay1 (iblk m c 0 t) (iblk m c 1 t) (iblk m c 3 t) (iblk m c 2 t) y
      = ref (m ((c : Thread nD τ).loc main_arg0)) (m ((c : Thread nD τ).loc main_arg1))
          (m ((c : Thread nD τ).loc main_arg2)) (m ((c : Thread nD τ).loc main_arg3)) (((cfg0.win 4).blk t).view.emb y) := by
  rw [wblk, ref, ← Cert.Reference10Ideal.Read.val_main_v24_eq]
  pointwise [k0_pay1, prep]
  blk_point [iblk, V, idx t]

/-- The kernel's output array after the run is the reference's array. -/
theorem final (c : Dev nD) : (dats m 0 c).arrAt 4 (cfgs 0).N
    = ref (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.Kernel10Ideal.Out

end
-- ==== Proof.TopIndepIdeal.lean ====
/-
  The top-k kernel's loop over heads (idealized): what it stores does not depend on what the four output buffers held before.
-/
module

public import proofs.«01_k».proof.Proof.Gen.Kernel6Ideal.Loops

@[expose] public section

set_option maxRecDepth 16384

noncomputable section

namespace Cert.Kernel6Ideal.Gen

open Idealize.ShloMosaic Idealize.SL.Sem

variable {F : FTy → Type} [FloatOps F]

/-- One trip's stores do not depend on what the output buffers held. -/
theorem trip_indep (𝒱 : Variants) (c : Dev nD) (bd : Option 𝒱.V) (i : grid0.Coords)
    (arg1 : Memref sig .tc .vmem S2048x256 .bf16) (harg1 : arg1.IsWhole) (arg2 : Memref sig .tc .vmem S2048x2048 .bf16) (harg2 : arg2.IsWhole)
    (arg3 : Memref sig .tc .vmem S8x2x128x128 .bf16) (harg3 : arg3.IsWhole) (arg4 : Memref sig .tc .vmem S16x8x8x256 .f32) (harg4 : arg4.IsWhole)
    (arg5 : Memref sig .tc .vmem S16x8x8x256 .f32) (harg5 : arg5.IsWhole) (arg6 : Memref sig .tc .vmem S8x128x256 .bf16) (harg6 : arg6.IsWhole)
    (arg7 : Memref sig .tc .vmem S8x128x256 .bf16) (harg7 : arg7.IsWhole) (arg8 : Memref sig .tc .vmem S2048x256 .bf16) (harg8 : arg8.IsWhole)
    (arg9 : Memref sig .tc .vmem S56x256 .f32) (harg9 : arg9.IsWhole)
    (X3 : BufTy.Contents (Elt F) arg3.view.ty) (X8 : BufTy.Contents (Elt F) arg8.view.ty) (k : Fin k0_t1_loop.trips)
    (f4 : BufTy.Contents (Elt F) arg4.view.ty) (f5 : BufTy.Contents (Elt F) arg5.view.ty) (f6 : BufTy.Contents (Elt F) arg6.view.ty)
    (f7 : BufTy.Contents (Elt F) arg7.view.ty) (g4 : BufTy.Contents (Elt F) arg4.view.ty) (g5 : BufTy.Contents (Elt F) arg5.view.ty)
    (g6 : BufTy.Contents (Elt F) arg6.view.ty) (g7 : BufTy.Contents (Elt F) arg7.view.ty) (f9 : BufTy.Contents (Elt F) arg9.view.ty) :
    tripL_k0_t1 𝒱 c bd i arg1 harg1 arg2 harg2 arg3 harg3 arg4 harg4 arg5 harg5 arg6 harg6 arg7 harg7 arg8 harg8 arg9 harg9 X3 X8 k f4 f5 f6 f7 f9
      = tripL_k0_t1 𝒱 c bd i arg1 harg1 arg2 harg2 arg3 harg3 arg4 harg4 arg5 harg5 arg6 harg6 arg7 harg7 arg8 harg8 arg9 harg9 X3 X8 k g4 g5 g6 g7 f9 := by
  unfold tripL_k0_t1 trip_k0_t1
  rfl

/-- The stores of the first `n` trips do not depend on what the output buffers held. -/
theorem pb_indep (𝒱 : Variants) (c : Dev nD) (bd : Option 𝒱.V) (i : grid0.Coords)
    (arg1 : Memref sig .tc .vmem S2048x256 .bf16) (harg1 : arg1.IsWhole) (arg2 : Memref sig .tc .vmem S2048x2048 .bf16) (harg2 : arg2.IsWhole)
    (arg3 : Memref sig .tc .vmem S8x2x128x128 .bf16) (harg3 : arg3.IsWhole) (arg4 : Memref sig .tc .vmem S16x8x8x256 .f32) (harg4 : arg4.IsWhole)
    (arg5 : Memref sig .tc .vmem S16x8x8x256 .f32) (harg5 : arg5.IsWhole) (arg6 : Memref sig .tc .vmem S8x128x256 .bf16) (harg6 : arg6.IsWhole)
    (arg7 : Memref sig .tc .vmem S8x128x256 .bf16) (harg7 : arg7.IsWhole) (arg8 : Memref sig .tc .vmem S2048x256 .bf16) (harg8 : arg8.IsWhole)
    (arg9 : Memref sig .tc .vmem S56x256 .f32) (harg9 : arg9.IsWhole)
    (X3 : BufTy.Contents (Elt F) arg3.view.ty) (X8 : BufTy.Contents (Elt F) arg8.view.ty)
    (f4 : BufTy.Contents (Elt F) arg4.view.ty) (f5 : BufTy.Contents (Elt F) arg5.view.ty) (f6 : BufTy.Contents (Elt F) arg6.view.ty)
    (f7 : BufTy.Contents (Elt F) arg7.view.ty) (g4 : BufTy.Contents (Elt F) arg4.view.ty) (g5 : BufTy.Contents (Elt F) arg5.view.ty)
    (g6 : BufTy.Contents (Elt F) arg6.view.ty) (g7 : BufTy.Contents (Elt F) arg7.view.ty) (f9 : BufTy.Contents (Elt F) arg9.view.ty)
    (n : ℕ) (hn : n ≤ k0_t1_loop.trips) :
    pb_k0_t1 𝒱 c bd i arg1 harg1 arg2 harg2 arg3 harg3 arg4 harg4 arg5 harg5 arg6 harg6 arg7 harg7 arg8 harg8 arg9 harg9 X3 X8 f4 f5 f6 f7 f9 n
      = pb_k0_t1 𝒱 c bd i arg1 harg1 arg2 harg2 arg3 harg3 arg4 harg4 arg5 harg5 arg6 harg6 arg7 harg7 arg8 harg8 arg9 harg9 X3 X8 g4 g5 g6 g7 f9 n := by
  induction n with
  | zero => rfl
  | succ n ih =>
    have h := fun a b c' d => pb_k0_t1_succ 𝒱 c bd i arg1 harg1 arg2 harg2 arg3 harg3 arg4 harg4 arg5 harg5 arg6 harg6 arg7 harg7 arg8 harg8 arg9 harg9 X3 X8 a b c' d f9 ⟨n, hn⟩
    refine (h f4 f5 f6 f7).trans (Eq.trans ?_ (h g4 g5 g6 g7).symm)
    generalize h1 : pb_k0_t1 𝒱 c bd i arg1 harg1 arg2 harg2 arg3 harg3 arg4 harg4 arg5 harg5 arg6 harg6 arg7 harg7 arg8 harg8 arg9 harg9 X3 X8 f4 f5 f6 f7 f9 n = p
    generalize h2 : pb_k0_t1 𝒱 c bd i arg1 harg1 arg2 harg2 arg3 harg3 arg4 harg4 arg5 harg5 arg6 harg6 arg7 harg7 arg8 harg8 arg9 harg9 X3 X8 g4 g5 g6 g7 f9 n = q
    obtain rfl : p = q := h1.symm.trans ((ih (Nat.le_of_succ_le hn)).trans h2)
    have e := trip_indep 𝒱 c bd i arg1 harg1 arg2 harg2 arg3 harg3 arg4 harg4 arg5 harg5 arg6 harg6 arg7 harg7 arg8 harg8 arg9 harg9 X3 X8 ⟨n, hn⟩
      (arg4.view.writes (Elt F) f4 p.1) (arg5.view.writes (Elt F) f5 p.2.1) (arg6.view.writes (Elt F) f6 p.2.2.1)
      (arg7.view.writes (Elt F) f7 p.2.2.2.1)
      (arg4.view.writes (Elt F) g4 p.1) (arg5.view.writes (Elt F) g5 p.2.1) (arg6.view.writes (Elt F) g6 p.2.2.1)
      (arg7.view.writes (Elt F) g7 p.2.2.2.1) (arg9.view.writes (Elt F) f9 p.2.2.2.2)
    exact congrArg (fun t : List (View.Piece (Elt F) S16x8x8x256 .f32) × List (View.Piece (Elt F) S16x8x8x256 .f32)
        × List (View.Piece (Elt F) S8x128x256 .bf16) × List (View.Piece (Elt F) S8x128x256 .bf16) × List (View.Piece (Elt F) S56x256 .f32) =>
      (t.1 ++ p.1, t.2.1 ++ p.2.1, t.2.2.1 ++ p.2.2.1, t.2.2.2.1 ++ p.2.2.2.1, t.2.2.2.2 ++ p.2.2.2.2)) e

end Cert.Kernel6Ideal.Gen

end
-- ==== Proof.TopRunIdeal.lean ====
/-
  The run of the top-k kernel's body (idealized): what its stores leave in the four output buffers.
-/
module

public import proofs.«01_k».proof.Proof.Gen.Kernel6Ideal.Frame.Runs
public import proofs.«01_k».proof.Proof.TopIndepIdeal

@[expose] public section

-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2048x256 .bf16) (harg1 : arg1.IsWhole) (arg2 : Memref sig .tc .vmem S2048x2048 .bf16) (harg2 : arg2.IsWhole) (arg3 : Memref sig .tc .vmem S8x2x128x128 .bf16) (harg3 : arg3.IsWhole) (arg4 : Memref sig .tc .vmem S16x8x8x256 .f32) (harg4 : arg4.IsWhole) (arg5 : Memref sig .tc .vmem S16x8x8x256 .f32) (harg5 : arg5.IsWhole) (arg6 : Memref sig .tc .vmem S8x128x256 .bf16) (harg6 : arg6.IsWhole) (arg7 : Memref sig .tc .vmem S8x128x256 .bf16) (harg7 : arg7.IsWhole) (arg8 : Memref sig .tc .vmem S2048x256 .bf16) (harg8 : arg8.IsWhole) (arg9 : Memref sig .tc .vmem S56x256 .f32) (harg9 : arg9.IsWhole)
    (x0 : Vec F S2048x256 .bf16) (x1 : Vec F S2048x2048 .bf16) (x2 : Vec F S8x2x128x128 .bf16) :
    Σ' (L3 : List (View.Piece (Elt F) S16x8x8x256 .f32)), Σ' (L4 : List (View.Piece (Elt F) S16x8x8x256 .f32)), Σ' (L5 : List (View.Piece (Elt F) S8x128x256 .bf16)), { L6 : List (View.Piece (Elt F) S8x128x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d) ∗ (∃ d, owns (c : Thread nD τ) arg9 fullShare d)) -∗ K ⟨⟩))
          ⊢ wp frame (wpE (defs₀ (F := F)) Variants.none c none) E (cc0_peer_topk i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_peer_topk_eq_skeleton]; unfold cc0_peer_topk_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    simp only [pb_indep Variants.none c none i arg1 harg1 arg2 harg2 arg3 harg3 arg4 harg4 arg5 harg5 arg6 harg6 arg7 harg7 arg8 harg8 arg9 harg9 _ _ f3 f4 f5 f6 arg4.view.junk arg5.view.junk arg6.view.junk arg7.view.junk _ _ le_rfl]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [HS0]
    · iexists _, _; isplitr; swap; · iexact HS0
      ipureintro; rfl
    iexists _, _; isplitr; swap; · iexact HS1
    ipureintro; rfl

end Cert.Kernel6Ideal.Gen

end
-- ==== Proof.TopFrameIdeal.lean ====
/-
  The whole run of the top-k call (idealized), from the run of its body.
-/
module

public import proofs.«01_k».proof.Proof.TopRunIdeal
public import Idealize.ShloMosaic.Lib.Claim

@[expose] public section

-- membership in a rectangle of production extents (`View.cover_of_tiled`): the elaborator's structural look
-- recurses once per coordinate of the long axes
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 3 tile its block (128 stores of `S1x1x8x256`, checked by the kernel's evaluation: Lib/Ring.lean `Piece.tiledL`, linear in the pieces, through a loop's `@[irreducible]` trip theorem too), so they cover it. -/
theorem cover0_A_3 (c : Dev nD) (i : grid0.Coords) (arg1 : Memref sig .tc .vmem S2048x256 .bf16) (harg1 : arg1.IsWhole) (arg2 : Memref sig .tc .vmem S2048x2048 .bf16) (harg2 : arg2.IsWhole) (arg3 : Memref sig .tc .vmem S8x2x128x128 .bf16) (harg3 : arg3.IsWhole) (arg4 : Memref sig .tc .vmem S16x8x8x256 .f32) (harg4 : arg4.IsWhole) (arg5 : Memref sig .tc .vmem S16x8x8x256 .f32) (harg5 : arg5.IsWhole) (arg6 : Memref sig .tc .vmem S8x128x256 .bf16) (harg6 : arg6.IsWhole) (arg7 : Memref sig .tc .vmem S8x128x256 .bf16) (harg7 : arg7.IsWhole) (arg8 : Memref sig .tc .vmem S2048x256 .bf16) (harg8 : arg8.IsWhole) (arg9 : Memref sig .tc .vmem S56x256 .f32) (harg9 : arg9.IsWhole)
    (x0 : Vec F S2048x256 .bf16) (x1 : Vec F S2048x2048 .bf16) (x2 : Vec F S8x2x128x128 .bf16) (y : S16x8x8x256.Idx) :
    ∃ pc ∈ (kernelRun0_A c i arg1 harg1 arg2 harg2 arg3 harg3 arg4 harg4 arg5 harg5 arg6 harg6 arg7 harg7 arg8 harg8 arg9 harg9 x0 x1 x2).1, y ∈ pc.1.set :=
  View.cover_of_tiledL (kernelRun0_A c i arg1 harg1 arg2 harg2 arg3 harg3 arg4 harg4 arg5 harg5 arg6 harg6 arg7 harg7 arg8 harg8 arg9 harg9 x0 x1 x2).1 S1x1x8x256.size (by sl_kernel_rfl) y

/-- What the run leaves in output 3's staging buffer: its pieces read back over junk. -/
def out0_A_3 (c : Dev nD) (i : grid0.Coords) (arg1 : Memref sig .tc .vmem S2048x256 .bf16) (harg1 : arg1.IsWhole) (arg2 : Memref sig .tc .vmem S2048x2048 .bf16) (harg2 : arg2.IsWhole) (arg3 : Memref sig .tc .vmem S8x2x128x128 .bf16) (harg3 : arg3.IsWhole) (arg4 : Memref sig .tc .vmem S16x8x8x256 .f32) (harg4 : arg4.IsWhole) (arg5 : Memref sig .tc .vmem S16x8x8x256 .f32) (harg5 : arg5.IsWhole) (arg6 : Memref sig .tc .vmem S8x128x256 .bf16) (harg6 : arg6.IsWhole) (arg7 : Memref sig .tc .vmem S8x128x256 .bf16) (harg7 : arg7.IsWhole) (arg8 : Memref sig .tc .vmem S2048x256 .bf16) (harg8 : arg8.IsWhole) (arg9 : Memref sig .tc .vmem S56x256 .f32) (harg9 : arg9.IsWhole)
    (x0 : Vec F S2048x256 .bf16) (x1 : Vec F S2048x2048 .bf16) (x2 : Vec F S8x2x128x128 .bf16) : Vec F S16x8x8x256 .f32 :=
  VO0_3.read (Elt F) (VO0_3.writes (Elt F) VO0_3.junk (kernelRun0_A c i arg1 harg1 arg2 harg2 arg3 harg3 arg4 harg4 arg5 harg5 arg6 harg6 arg7 harg7 arg8 harg8 arg9 harg9 x0 x1 x2).1)

/-- The run's pieces for output 4 tile its block (128 stores of `S1x1x8x256`, checked by the kernel's evaluation: Lib/Ring.lean `Piece.tiledL`, linear in the pieces, through a loop's `@[irreducible]` trip theorem too), so they cover it. -/
theorem cover0_A_4 (c : Dev nD) (i : grid0.Coords) (arg1 : Memref sig .tc .vmem S2048x256 .bf16) (harg1 : arg1.IsWhole) (arg2 : Memref sig .tc .vmem S2048x2048 .bf16) (harg2 : arg2.IsWhole) (arg3 : Memref sig .tc .vmem S8x2x128x128 .bf16) (harg3 : arg3.IsWhole) (arg4 : Memref sig .tc .vmem S16x8x8x256 .f32) (harg4 : arg4.IsWhole) (arg5 : Memref sig .tc .vmem S16x8x8x256 .f32) (harg5 : arg5.IsWhole) (arg6 : Memref sig .tc .vmem S8x128x256 .bf16) (harg6 : arg6.IsWhole) (arg7 : Memref sig .tc .vmem S8x128x256 .bf16) (harg7 : arg7.IsWhole) (arg8 : Memref sig .tc .vmem S2048x256 .bf16) (harg8 : arg8.IsWhole) (arg9 : Memref sig .tc .vmem S56x256 .f32) (harg9 : arg9.IsWhole)
    (x0 : Vec F S2048x256 .bf16) (x1 : Vec F S2048x2048 .bf16) (x2 : Vec F S8x2x128x128 .bf16) (y : S16x8x8x256.Idx) :
    ∃ pc ∈ (kernelRun0_A c i arg1 harg1 arg2 harg2 arg3 harg3 arg4 harg4 arg5 harg5 arg6 harg6 arg7 harg7 arg8 harg8 arg9 harg9 x0 x1 x2).2.1, y ∈ pc.1.set :=
  View.cover_of_tiledL (kernelRun0_A c i arg1 harg1 arg2 harg2 arg3 harg3 arg4 harg4 arg5 harg5 arg6 harg6 arg7 harg7 arg8 harg8 arg9 harg9 x0 x1 x2).2.1 S1x1x8x256.size (by sl_kernel_rfl) y

/-- What the run leaves in output 4's staging buffer: its pieces read back over junk. -/
def out0_A_4 (c : Dev nD) (i : grid0.Coords) (arg1 : Memref sig .tc .vmem S2048x256 .bf16) (harg1 : arg1.IsWhole) (arg2 : Memref sig .tc .vmem S2048x2048 .bf16) (harg2 : arg2.IsWhole) (arg3 : Memref sig .tc .vmem S8x2x128x128 .bf16) (harg3 : arg3.IsWhole) (arg4 : Memref sig .tc .vmem S16x8x8x256 .f32) (harg4 : arg4.IsWhole) (arg5 : Memref sig .tc .vmem S16x8x8x256 .f32) (harg5 : arg5.IsWhole) (arg6 : Memref sig .tc .vmem S8x128x256 .bf16) (harg6 : arg6.IsWhole) (arg7 : Memref sig .tc .vmem S8x128x256 .bf16) (harg7 : arg7.IsWhole) (arg8 : Memref sig .tc .vmem S2048x256 .bf16) (harg8 : arg8.IsWhole) (arg9 : Memref sig .tc .vmem S56x256 .f32) (harg9 : arg9.IsWhole)
    (x0 : Vec F S2048x256 .bf16) (x1 : Vec F S2048x2048 .bf16) (x2 : Vec F S8x2x128x128 .bf16) : Vec F S16x8x8x256 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 x0 x1 x2).2.1)

/-- The run's pieces for output 5 tile its block (8 stores of `S1x128x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S2048x256 .bf16) (harg1 : arg1.IsWhole) (arg2 : Memref sig .tc .vmem S2048x2048 .bf16) (harg2 : arg2.IsWhole) (arg3 : Memref sig .tc .vmem S8x2x128x128 .bf16) (harg3 : arg3.IsWhole) (arg4 : Memref sig .tc .vmem S16x8x8x256 .f32) (harg4 : arg4.IsWhole) (arg5 : Memref sig .tc .vmem S16x8x8x256 .f32) (harg5 : arg5.IsWhole) (arg6 : Memref sig .tc .vmem S8x128x256 .bf16) (harg6 : arg6.IsWhole) (arg7 : Memref sig .tc .vmem S8x128x256 .bf16) (harg7 : arg7.IsWhole) (arg8 : Memref sig .tc .vmem S2048x256 .bf16) (harg8 : arg8.IsWhole) (arg9 : Memref sig .tc .vmem S56x256 .f32) (harg9 : arg9.IsWhole)
    (x0 : Vec F S2048x256 .bf16) (x1 : Vec F S2048x2048 .bf16) (x2 : Vec F S8x2x128x128 .bf16) (y : S8x128x256.Idx) :
    ∃ pc ∈ (kernelRun0_A c i arg1 harg1 arg2 harg2 arg3 harg3 arg4 harg4 arg5 harg5 arg6 harg6 arg7 harg7 arg8 harg8 arg9 harg9 x0 x1 x2).2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.1 S1x128x256.size (by sl_kernel_rfl) y

/-- What the run leaves in output 5's staging buffer: its pieces read back over junk. -/
def out0_A_5 (c : Dev nD) (i : grid0.Coords) (arg1 : Memref sig .tc .vmem S2048x256 .bf16) (harg1 : arg1.IsWhole) (arg2 : Memref sig .tc .vmem S2048x2048 .bf16) (harg2 : arg2.IsWhole) (arg3 : Memref sig .tc .vmem S8x2x128x128 .bf16) (harg3 : arg3.IsWhole) (arg4 : Memref sig .tc .vmem S16x8x8x256 .f32) (harg4 : arg4.IsWhole) (arg5 : Memref sig .tc .vmem S16x8x8x256 .f32) (harg5 : arg5.IsWhole) (arg6 : Memref sig .tc .vmem S8x128x256 .bf16) (harg6 : arg6.IsWhole) (arg7 : Memref sig .tc .vmem S8x128x256 .bf16) (harg7 : arg7.IsWhole) (arg8 : Memref sig .tc .vmem S2048x256 .bf16) (harg8 : arg8.IsWhole) (arg9 : Memref sig .tc .vmem S56x256 .f32) (harg9 : arg9.IsWhole)
    (x0 : Vec F S2048x256 .bf16) (x1 : Vec F S2048x2048 .bf16) (x2 : Vec F S8x2x128x128 .bf16) : Vec F S8x128x256 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2).2.2.1)

/-- The run's pieces for output 6 tile its block (8 stores of `S1x128x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S2048x256 .bf16) (harg1 : arg1.IsWhole) (arg2 : Memref sig .tc .vmem S2048x2048 .bf16) (harg2 : arg2.IsWhole) (arg3 : Memref sig .tc .vmem S8x2x128x128 .bf16) (harg3 : arg3.IsWhole) (arg4 : Memref sig .tc .vmem S16x8x8x256 .f32) (harg4 : arg4.IsWhole) (arg5 : Memref sig .tc .vmem S16x8x8x256 .f32) (harg5 : arg5.IsWhole) (arg6 : Memref sig .tc .vmem S8x128x256 .bf16) (harg6 : arg6.IsWhole) (arg7 : Memref sig .tc .vmem S8x128x256 .bf16) (harg7 : arg7.IsWhole) (arg8 : Memref sig .tc .vmem S2048x256 .bf16) (harg8 : arg8.IsWhole) (arg9 : Memref sig .tc .vmem S56x256 .f32) (harg9 : arg9.IsWhole)
    (x0 : Vec F S2048x256 .bf16) (x1 : Vec F S2048x2048 .bf16) (x2 : Vec F S8x2x128x128 .bf16) (y : S8x128x256.Idx) :
    ∃ pc ∈ (kernelRun0_A c i arg1 harg1 arg2 harg2 arg3 harg3 arg4 harg4 arg5 harg5 arg6 harg6 arg7 harg7 arg8 harg8 arg9 harg9 x0 x1 x2).2.2.2.1, y ∈ pc.1.set :=
  View.cover_of_tiledL (kernelRun0_A c i arg1 harg1 arg2 harg2 arg3 harg3 arg4 harg4 arg5 harg5 arg6 harg6 arg7 harg7 arg8 harg8 arg9 harg9 x0 x1 x2).2.2.2.1 S1x128x256.size (by sl_kernel_rfl) y

/-- What the run leaves in output 6's staging buffer: its pieces read back over junk. -/
def out0_A_6 (c : Dev nD) (i : grid0.Coords) (arg1 : Memref sig .tc .vmem S2048x256 .bf16) (harg1 : arg1.IsWhole) (arg2 : Memref sig .tc .vmem S2048x2048 .bf16) (harg2 : arg2.IsWhole) (arg3 : Memref sig .tc .vmem S8x2x128x128 .bf16) (harg3 : arg3.IsWhole) (arg4 : Memref sig .tc .vmem S16x8x8x256 .f32) (harg4 : arg4.IsWhole) (arg5 : Memref sig .tc .vmem S16x8x8x256 .f32) (harg5 : arg5.IsWhole) (arg6 : Memref sig .tc .vmem S8x128x256 .bf16) (harg6 : arg6.IsWhole) (arg7 : Memref sig .tc .vmem S8x128x256 .bf16) (harg7 : arg7.IsWhole) (arg8 : Memref sig .tc .vmem S2048x256 .bf16) (harg8 : arg8.IsWhole) (arg9 : Memref sig .tc .vmem S56x256 .f32) (harg9 : arg9.IsWhole)
    (x0 : Vec F S2048x256 .bf16) (x1 : Vec F S2048x2048 .bf16) (x2 : Vec F S8x2x128x128 .bf16) : Vec F S8x128x256 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2).2.2.2.1)

/-! ## What the outputs hold after each point -/

/-- What the outputs' staging buffers hold after the body at point `t` (as a tuple, in window order): the run's contents at
    the point's memrefs and input blocks. -/
def outsAt0 (c : Dev nD) (t : Fin cfg0.N) : Vec F S16x8x8x256 .f32 × Vec F S16x8x8x256 .f32 × Vec F S8x128x256 .bf16 × Vec F S8x128x256 .bf16 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2.1
    | ⟨6, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2.1 := by dsimp only [dats]
theorem after0_6 (c : Dev nD) (t : Fin cfg0.N) : (dats m 0 c).after 6 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_3 out0_A_4 out0_A_5 out0_A_6; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t)).2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, ⟨%e3, H3⟩, ⟨%e4, H4⟩, ⟨%e5, H5⟩, ⟨%e6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel6Ideal`'s statement (Defs.lean) at any `F` — Proof.lean cites it at `Bits`:
    `theorem Cert.Proof.claim : Cert.Claim := ⟨Cert.Kernel6Ideal.Gen.facts, fun m ρ _ => Cert.Kernel6Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel6Ideal.Gen

end
-- ==== Proof.TopValueIdeal.lean ====
/-
  The top-k call's output arrays after the run, as the blocks its body leaves.
-/
module

public import proofs.«01_k».proof.Proof.TopFrameIdeal
public import Idealize.ShloMosaic.Lib.Pipeline.Value

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — the kernel's one case, `Gen.outsAt0` by definition. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t)) := by
  simp only [flushed3, outsAt0]

/-- The index map sends distinct grid points to distinct block indices (decided over the 64 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S16x8x8x16384.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t).2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t)) := by
  simp only [flushed4, outsAt0]

/-- The index map sends distinct grid points to distinct block indices (decided over the 64 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S16x8x8x16384.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 2), read through the window's block. -/
theorem flushed5 (c : Dev nD) (t : Fin cfg0.N) :
    (dats m 0 c).flushed 5 t = (cfg0.win 5).cut (grid0.coords t) ((outsAt0 m c t).2.2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — the kernel's one case, `Gen.outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t)) := by
  simp only [flushed5, outsAt0]

/-- The index map sends distinct grid points to distinct block indices (decided over the 64 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8x128x16384.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 3), read through the window's block. -/
theorem flushed6 (c : Dev nD) (t : Fin cfg0.N) :
    (dats m 0 c).flushed 6 t = (cfg0.win 6).cut (grid0.coords t) ((outsAt0 m c t).2.2.2) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t)) := by
  simp only [flushed6, outsAt0]

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8x128x16384.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_3) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_v1_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      kept_main_arg0 m r h c,
      kept_main_arg1 m r h c,
      kept_main_arg2 m r h c⟩)
    (run_main m ρ)

end Cert.Kernel6Ideal.Value

end
-- ==== Proof.TopTrip.lean ====
/-
  One trip of the top-k kernel's loop over heads, as far as the first halves' weights `p0` go: the head's 128 scores at
  each of 256 tokens, the exponentials of the scores less their maximum, stored as 16 strips of 8 rows.
-/
module

public import proofs.«01_k».proof.Proof.Gen.Kernel6Ideal.Loops

@[expose] public section

set_option maxRecDepth 16384

noncomputable section

namespace Cert.Kernel6Ideal.Top

open Idealize.ShloMosaic Idealize.SL.Sem
open Cert.Kernel6Ideal Cert.Kernel6Ideal.Gen

variable {F : FTy → Type} [FloatOps F]

/-- Eight rows of a head's weights, as the piece the kernel stores at the offsets `off`. -/
def strip (off : Fin 4 → ℕ) (h : ∀ x, off x + S1x1x8x256.size x ≤ S16x8x8x256.size x) (row : Fin 2 → ℕ)
    (hr : S128x256.Slices row S8x256) (a : FVec F S128x256 .f32) : View.Piece (Elt F) S16x8x8x256 .f32 :=
  ⟨Rect.unit (s := S16x8x8x256) off S1x1x8x256.size h,
    shapeCast S1x1x8x256 (extractStridedSlice S8x256 row a hr) shapeCasts_S8x256_S1x1x8x256⟩

/-- The first half of a head's keys, as the kernel loads it. -/
abbrev loadKeys (a : Memref sig .tc .vmem S8x2x128x128 .bf16) (X : BufTy.Contents (Elt F) a.view.ty)
    (k : Fin k0_t1_loop.trips) : Vec F S1x1x128x128 .bf16 :=
  View.readAt (Elt F) a.view (Rect.unit (s := S8x2x128x128) (k0_off1 k) S1x1x128x128.size (k0_off1_inb k)).toLoadRect X

/-- The rows of the queries the first half of a head's keys meet, as the kernel loads them. -/
abbrev loadQuery (a : Memref sig .tc .vmem S2048x256 .bf16) (X : BufTy.Contents (Elt F) a.view.ty)
    (k : Fin k0_t1_loop.trips) : Vec F S128x256 .bf16 :=
  View.readAt (Elt F) a.view (Rect.unit (s := S2048x256) (k0_off2 k 0#32) S128x256.size (k0_off2_inb k 0)).toLoadRect X

/-- A head's weights: the exponentials of its scores less their maximum. -/
def weights (v16 : Vec F S1x1x128x128 .bf16) (v19 : Vec F S128x256 .bf16) : FVec F S128x256 .f32 :=
  k0_pay155 (k0_pay5 v16 v19) (k0_pay6 v16 v19)

theorem trip_pieces (𝒱 : Variants) (c : Dev nD) (bd : Option 𝒱.V) (i : grid0.Coords)
    (arg1 : Memref sig .tc .vmem S2048x256 .bf16) (harg1 : arg1.IsWhole) (arg2 : Memref sig .tc .vmem S2048x2048 .bf16) (harg2 : arg2.IsWhole)
    (arg3 : Memref sig .tc .vmem S8x2x128x128 .bf16) (harg3 : arg3.IsWhole) (arg4 : Memref sig .tc .vmem S16x8x8x256 .f32) (harg4 : arg4.IsWhole)
    (arg5 : Memref sig .tc .vmem S16x8x8x256 .f32) (harg5 : arg5.IsWhole) (arg6 : Memref sig .tc .vmem S8x128x256 .bf16) (harg6 : arg6.IsWhole)
    (arg7 : Memref sig .tc .vmem S8x128x256 .bf16) (harg7 : arg7.IsWhole) (arg8 : Memref sig .tc .vmem S2048x256 .bf16) (harg8 : arg8.IsWhole)
    (arg9 : Memref sig .tc .vmem S56x256 .f32) (harg9 : arg9.IsWhole)
    (X3 : BufTy.Contents (Elt F) arg3.view.ty) (X8 : BufTy.Contents (Elt F) arg8.view.ty) (k : Fin k0_t1_loop.trips)
    (f4 : BufTy.Contents (Elt F) arg4.view.ty) (f5 : BufTy.Contents (Elt F) arg5.view.ty) (f6 : BufTy.Contents (Elt F) arg6.view.ty)
    (f7 : BufTy.Contents (Elt F) arg7.view.ty) (f9 : BufTy.Contents (Elt F) arg9.view.ty) :
    (tripL_k0_t1 𝒱 c bd i arg1 harg1 arg2 harg2 arg3 harg3 arg4 harg4 arg5 harg5 arg6 harg6 arg7 harg7 arg8 harg8 arg9 harg9
        X3 X8 k f4 f5 f6 f7 f9).2.1
      = (let a := weights (loadKeys arg3 X3 k) (loadQuery arg8 X8 k)
         [strip (k0_off19 k) (k0_off19_inb k) ![120, 0] slices_S128x256_o120_0_S8x256 a,
          strip (k0_off18 k) (k0_off18_inb k) ![112, 0] slices_S128x256_o112_0_S8x256 a,
          strip (k0_off17 k) (k0_off17_inb k) ![104, 0] slices_S128x256_o104_0_S8x256 a,
          strip (k0_off16 k) (k0_off16_inb k) ![96, 0] slices_S128x256_o96_0_S8x256 a,
          strip (k0_off15 k) (k0_off15_inb k) ![88, 0] slices_S128x256_o88_0_S8x256 a,
          strip (k0_off14 k) (k0_off14_inb k) ![80, 0] slices_S128x256_o80_0_S8x256 a,
          strip (k0_off13 k) (k0_off13_inb k) ![72, 0] slices_S128x256_o72_0_S8x256 a,
          strip (k0_off12 k) (k0_off12_inb k) ![64, 0] slices_S128x256_o64_0_S8x256 a,
          strip (k0_off11 k) (k0_off11_inb k) ![56, 0] slices_S128x256_o56_0_S8x256 a,
          strip (k0_off10 k) (k0_off10_inb k) ![48, 0] slices_S128x256_o48_0_S8x256 a,
          strip (k0_off9 k) (k0_off9_inb k) ![40, 0] slices_S128x256_o40_0_S8x256 a,
          strip (k0_off8 k) (k0_off8_inb k) ![32, 0] slices_S128x256_o32_0_S8x256 a,
          strip (k0_off7 k) (k0_off7_inb k) ![24, 0] slices_S128x256_o24_0_S8x256 a,
          strip (k0_off6 k) (k0_off6_inb k) ![16, 0] slices_S128x256_o16_0_S8x256 a,
          strip (k0_off5 k) (k0_off5_inb k) ![8, 0] slices_S128x256_o8_0_S8x256 a,
          strip (k0_off4 k) (k0_off4_inb k) ![0, 0] slices_S128x256_o0_0_S8x256 a]) := by
  unfold tripL_k0_t1 trip_k0_t1
  rfl

end Cert.Kernel6Ideal.Top

end
-- ==== Proof.TopWeights.lean ====
/-
  A head's weights over the extended reals: the exponentials of its scores less their maximum.
-/
module

public import proofs.«01_k».proof.Proof.TopTrip
public import Idealize.ShloMosaic.Lib.Pipeline.ValueKit

@[expose] public section

set_option maxRecDepth 16384

noncomputable section

namespace Cert.Kernel6Ideal.Top

open Idealize.ShloMosaic Idealize.SL.Sem
open Cert.Kernel6Ideal Cert.Kernel6Ideal.Gen
open scoped BigOperators

/-- Entry `r` of the exponentials of the 128 scores `s` less their maximum. -/
def soft (s : Fin 128 → EReal) (r : Fin 128) : EReal :=
  Ideal.exp (s r - Finset.univ.fold max (FloatOps.ofBits (F := Ideal) .f32 0xFF800000#32) s)

theorem scores_apply (v16 : Vec Ideal S1x1x128x128 .bf16) (v19 : Vec Ideal S128x256 .bf16) (r : Fin 128) (t : Fin 256) :
    k0_pay5 v16 v19 (ix2 r t) = ∑ c : Fin 128, (v16 (ix4 0 0 r c) : EReal) * (v19 (ix2 c t) : EReal) := by
  pointwise [k0_pay5]

theorem top_apply (v16 : Vec Ideal S1x1x128x128 .bf16) (v19 : Vec Ideal S128x256 .bf16) (t : Fin 256) :
    k0_pay6 v16 v19 (ix2 0 t) = Finset.univ.fold max (FloatOps.ofBits (F := Ideal) .f32 0xFF800000#32)
      fun r : Fin 128 => k0_pay5 v16 v19 (ix2 r t) := by
  unfold k0_pay6
  generalize k0_pay5 v16 v19 = a
  pointwise

theorem weights_apply (v16 : Vec Ideal S1x1x128x128 .bf16) (v19 : Vec Ideal S128x256 .bf16) (r : Fin 128) (t : Fin 256) :
    weights v16 v19 (ix2 r t)
      = soft (fun k => ∑ c : Fin 128, (v16 (ix4 0 0 k c) : EReal) * (v19 (ix2 c t) : EReal)) r := by
  have h : weights v16 v19 (ix2 r t) = Ideal.exp (k0_pay5 v16 v19 (ix2 r t) - k0_pay6 v16 v19 (ix2 0 t)) := by
    unfold weights
    generalize k0_pay5 v16 v19 = a
    generalize k0_pay6 v16 v19 = b
    pointwise [k0_pay155]
  rw [h, top_apply]
  simp only [scores_apply]
  rfl

/-- The queries the kernel holds in its scratch buffer: the weights times a block of 256 tokens. -/
theorem query_apply (x1 : Vec Ideal S2048x2048 .bf16) (x0 : Vec Ideal S2048x256 .bf16) (j : Fin 2048) (t : Fin 256) :
    k0_pay1 x1 x0 (ix2 j t) = ∑ d : Fin 2048, (x1 (ix2 j d) : EReal) * (x0 (ix2 d t) : EReal) := by
  pointwise [k0_pay1]

end Cert.Kernel6Ideal.Top

end
-- ==== Proof.TopBlock.lean ====
/-
  What the top-k kernel's run leaves in the block of first halves' weights at one grid point, over the extended reals.
-/
module

public import proofs.«01_k».proof.Proof.TopFrameIdeal
public import proofs.«01_k».proof.Proof.TopWeights
public import Idealize.ShloMosaic.Lib.Pipeline.ReadBack

@[expose] public section

set_option maxRecDepth 16384

noncomputable section

namespace Cert.Kernel6Ideal.Top

open Idealize.ShloMosaic Idealize.ShloMosaic.TcCoe Idealize.SL.Sem
open Cert.Kernel6Ideal Cert.Kernel6Ideal.Gen
open scoped BigOperators

/-- There are eight trips, one for each head. -/
theorem trips_eq : k0_t1_loop.trips = 8 := by decide +kernel

/-- The head of a trip. -/
abbrev head (k : Fin k0_t1_loop.trips) : Fin 8 := ⟨k.val, trips_eq ▸ k.isLt⟩

/-- A head's score of key `k` for token `t` of the block: the key's product with the token's query. -/
def score (x0 : Vec Ideal S2048x256 .bf16) (x1 : Vec Ideal S2048x2048 .bf16) (x2 : Vec Ideal S8x2x128x128 .bf16)
    (h : Fin 8) (t : Fin 256) (k : Fin 128) : EReal :=
  ∑ c : Fin 128, (x2 (ix4 h 0 k c) : EReal)
    * ∑ d : Fin 2048, (x1 (ix2 ⟨256 * h.val + c.val, by omega⟩ d) : EReal) * (x0 (ix2 d t) : EReal)

/-- The block's elements: every head's weights, in 16 groups of 8. -/
def blk (x0 : Vec Ideal S2048x256 .bf16) (x1 : Vec Ideal S2048x2048 .bf16) (x2 : Vec Ideal S8x2x128x128 .bf16)
    (y : S16x8x8x256.Idx) : EReal :=
  soft (score x0 x1 x2 (y 1) (y 3))
    ⟨8 * (y 0).val + (y 2).val, by
      have h0 : (y 0).val < 16 := (y 0).isLt
      have h2 : (y 2).val < 8 := (y 2).isLt
      omega⟩

/-! ## What the loads hold -/

theorem off1_eq : ∀ k : Fin k0_t1_loop.trips, k0_off1 k = ![k.val, 0, 0, 0] := by decide +kernel

theorem off2_eq : ∀ k : Fin k0_t1_loop.trips, k0_off2 k 0#32 = ![256 * k.val, 0] := by decide +kernel

theorem loadKeys_apply {a : Memref sig .tc .vmem S8x2x128x128 .bf16} (h : a.IsWhole) (x : Vec Ideal S8x2x128x128 .bf16)
    (k : Fin k0_t1_loop.trips) (r c : Fin 128) :
    loadKeys a (h.unread x) k (ix4 0 0 r c) = x (ix4 (head k) 0 r c) := by
  refine (congrFun (h.read_unread x) _).trans (congrArg x ?_)
  funext b
  refine Fin.ext ?_
  have e := congrFun (off1_eq k) b
  match b with
  | ⟨0, _⟩ => exact (congrArg (· + 1 * 0) e).trans rfl
  | ⟨1, _⟩ => exact (congrArg (· + 1 * 0) e).trans rfl
  | ⟨2, _⟩ => exact (congrArg (· + 1 * r.val) e).trans ((Nat.zero_add _).trans (Nat.one_mul _))
  | ⟨3, _⟩ => exact (congrArg (· + 1 * c.val) e).trans ((Nat.zero_add _).trans (Nat.one_mul _))

theorem loadQuery_apply (a : Memref sig .tc .vmem S2048x256 .bf16) (X : BufTy.Contents (Elt Ideal) a.view.ty)
    (k : Fin k0_t1_loop.trips) (c : Fin 128) (t : Fin 256) :
    loadQuery a X k (ix2 c t)
      = View.read (Elt Ideal) a.view X (ix2 ⟨256 * k.val + c.val, by have := (head k).isLt; change k.val < 8 at this; omega⟩ t) := by
  refine congrArg (View.read (Elt Ideal) a.view X) ?_
  funext b
  refine Fin.ext ?_
  have e := congrFun (off2_eq k) b
  match b with
  | ⟨0, _⟩ => exact (congrArg (· + 1 * c.val) e).trans (congrArg (256 * k.val + ·) (Nat.one_mul _))
  | ⟨1, _⟩ => exact (congrArg (· + 1 * t.val) e).trans ((Nat.zero_add _).trans (Nat.one_mul _))

/-! ## What one trip stores -/

theorem off_eq0 : ∀ k : Fin k0_t1_loop.trips, k0_off4 k = ![0, k.val, 0, 0] := by decide +kernel

theorem off_eq1 : ∀ k : Fin k0_t1_loop.trips, k0_off5 k = ![1, k.val, 0, 0] := by decide +kernel

theorem off_eq2 : ∀ k : Fin k0_t1_loop.trips, k0_off6 k = ![2, k.val, 0, 0] := by decide +kernel

theorem off_eq3 : ∀ k : Fin k0_t1_loop.trips, k0_off7 k = ![3, k.val, 0, 0] := by decide +kernel

theorem off_eq4 : ∀ k : Fin k0_t1_loop.trips, k0_off8 k = ![4, k.val, 0, 0] := by decide +kernel

theorem off_eq5 : ∀ k : Fin k0_t1_loop.trips, k0_off9 k = ![5, k.val, 0, 0] := by decide +kernel

theorem off_eq6 : ∀ k : Fin k0_t1_loop.trips, k0_off10 k = ![6, k.val, 0, 0] := by decide +kernel

theorem off_eq7 : ∀ k : Fin k0_t1_loop.trips, k0_off11 k = ![7, k.val, 0, 0] := by decide +kernel

theorem off_eq8 : ∀ k : Fin k0_t1_loop.trips, k0_off12 k = ![8, k.val, 0, 0] := by decide +kernel

theorem off_eq9 : ∀ k : Fin k0_t1_loop.trips, k0_off13 k = ![9, k.val, 0, 0] := by decide +kernel

theorem off_eq10 : ∀ k : Fin k0_t1_loop.trips, k0_off14 k = ![10, k.val, 0, 0] := by decide +kernel

theorem off_eq11 : ∀ k : Fin k0_t1_loop.trips, k0_off15 k = ![11, k.val, 0, 0] := by decide +kernel

theorem off_eq12 : ∀ k : Fin k0_t1_loop.trips, k0_off16 k = ![12, k.val, 0, 0] := by decide +kernel

theorem off_eq13 : ∀ k : Fin k0_t1_loop.trips, k0_off17 k = ![13, k.val, 0, 0] := by decide +kernel

theorem off_eq14 : ∀ k : Fin k0_t1_loop.trips, k0_off18 k = ![14, k.val, 0, 0] := by decide +kernel

theorem off_eq15 : ∀ k : Fin k0_t1_loop.trips, k0_off19 k = ![15, k.val, 0, 0] := by decide +kernel

/-- Eight rows of a head's weights are those elements of the block. -/
theorem strip_eq {x0 : Vec Ideal S2048x256 .bf16} {x1 : Vec Ideal S2048x2048 .bf16} {x2 : Vec Ideal S8x2x128x128 .bf16}
    (g : Fin 16) (k : Fin k0_t1_loop.trips) {off : Fin 4 → ℕ} (hb : ∀ x, off x + S1x1x8x256.size x ≤ S16x8x8x256.size x)
    (ho : off = ![g.val, k.val, 0, 0]) {o : ℕ} (hg : o = 8 * g.val) (hr : S128x256.Slices ![o, 0] S8x256) {a : FVec Ideal S128x256 .f32}
    (ha : ∀ r t, a (ix2 r t) = soft (score x0 x1 x2 (head k) t) r) (x : S1x1x8x256.Idx) :
    (strip off hb ![o, 0] hr a).2 x = blk x0 x1 x2 ((strip off hb ![o, 0] hr a).1.emb x) := by
  subst ho hg
  have h2 : (x 2).val < 8 := (x 2).isLt
  have h3 : (x 3).val < 256 := (x 3).isLt
  have e0 : ((Rect.unit (s := S16x8x8x256) ![g.val, k.val, 0, 0] S1x1x8x256.size hb).emb x 0).val = g.val := by
    have h : (x 0).val = 0 := Nat.lt_one_iff.mp (x 0).isLt
    exact (congrArg (g.val + 1 * ·) h).trans rfl
  have e1 : (Rect.unit (s := S16x8x8x256) ![g.val, k.val, 0, 0] S1x1x8x256.size hb).emb x 1 = head k := by
    have h : (x 1).val = 0 := Nat.lt_one_iff.mp (x 1).isLt
    exact Fin.ext ((congrArg (k.val + 1 * ·) h).trans rfl)
  have e2 : ((Rect.unit (s := S16x8x8x256) ![g.val, k.val, 0, 0] S1x1x8x256.size hb).emb x 2).val = (x 2).val :=
    (Nat.zero_add _).trans (Nat.one_mul _)
  have e3 : (Rect.unit (s := S16x8x8x256) ![g.val, k.val, 0, 0] S1x1x8x256.size hb).emb x 3 = x 3 :=
    Fin.ext ((Nat.zero_add _).trans (Nat.one_mul _))
  have hv : shapeCast S1x1x8x256 (extractStridedSlice S8x256 ![8 * g.val, 0] a hr) shapeCasts_S8x256_S1x1x8x256 x
      = a (ix2 ⟨8 * g.val + (x 2).val, by omega⟩ (x 3)) := by
    refine (shapeCast_apply _ _ x (ix2 (x 2) (x 3)) ?_).trans ?_
    · rw [Shape.rowMajor_val_two, Shape.rowMajor_val_four]
      have h0 : (x 0).val = 0 := Nat.lt_one_iff.mp (x 0).isLt
      have h1 : (x 1).val = 0 := Nat.lt_one_iff.mp (x 1).isLt
      change (x 2).val * 256 + (x 3).val = (((x 0).val * 1 + (x 1).val) * 8 + (x 2).val) * 256 + (x 3).val
      omega
    · refine congrArg a ?_
      funext b
      refine Fin.ext ?_
      match b with
      | ⟨0, _⟩ => rfl
      | ⟨1, _⟩ => exact Nat.zero_add _
  refine hv.trans ((ha _ _).trans ?_)
  change _ = blk x0 x1 x2 ((Rect.unit (s := S16x8x8x256) ![g.val, k.val, 0, 0] S1x1x8x256.size hb).emb x)
  unfold blk
  rw [e1, e3]
  refine congrArg (soft (score x0 x1 x2 (head k) (x 3))) (Fin.ext ?_)
  change 8 * g.val + (x 2).val = 8 * _ + _
  rw [e0, e2]

theorem trip_eq (𝒱 : Variants) (c : Dev nD) (bd : Option 𝒱.V) (i : grid0.Coords)
    (arg1 : Memref sig .tc .vmem S2048x256 .bf16) (harg1 : arg1.IsWhole) (arg2 : Memref sig .tc .vmem S2048x2048 .bf16) (harg2 : arg2.IsWhole)
    (arg3 : Memref sig .tc .vmem S8x2x128x128 .bf16) (harg3 : arg3.IsWhole) (arg4 : Memref sig .tc .vmem S16x8x8x256 .f32) (harg4 : arg4.IsWhole)
    (arg5 : Memref sig .tc .vmem S16x8x8x256 .f32) (harg5 : arg5.IsWhole) (arg6 : Memref sig .tc .vmem S8x128x256 .bf16) (harg6 : arg6.IsWhole)
    (arg7 : Memref sig .tc .vmem S8x128x256 .bf16) (harg7 : arg7.IsWhole) (arg8 : Memref sig .tc .vmem S2048x256 .bf16) (harg8 : arg8.IsWhole)
    (arg9 : Memref sig .tc .vmem S56x256 .f32) (harg9 : arg9.IsWhole)
    (x0 : Vec Ideal S2048x256 .bf16) (x1 : Vec Ideal S2048x2048 .bf16) (x2 : Vec Ideal S8x2x128x128 .bf16)
    (X8 : BufTy.Contents (Elt Ideal) arg8.view.ty)
    (hX : ∀ j t, View.read (Elt Ideal) arg8.view X8 (ix2 j t) = ∑ d : Fin 2048, (x1 (ix2 j d) : EReal) * (x0 (ix2 d t) : EReal))
    (k : Fin k0_t1_loop.trips)
    (f4 : BufTy.Contents (Elt Ideal) arg4.view.ty) (f5 : BufTy.Contents (Elt Ideal) arg5.view.ty) (f6 : BufTy.Contents (Elt Ideal) arg6.view.ty)
    (f7 : BufTy.Contents (Elt Ideal) arg7.view.ty) (f9 : BufTy.Contents (Elt Ideal) arg9.view.ty) :
    ∀ p ∈ (tripL_k0_t1 𝒱 c bd i arg1 harg1 arg2 harg2 arg3 harg3 arg4 harg4 arg5 harg5 arg6 harg6 arg7 harg7 arg8 harg8 arg9 harg9 (harg3.unread x2) X8 k f4 f5 f6 f7 f9).2.1,
      ∀ x, p.2 x = blk x0 x1 x2 (p.1.emb x) := by
  rw [trip_pieces]
  have ha : ∀ r t, weights (loadKeys arg3 (harg3.unread x2) k) (loadQuery arg8 X8 k) (ix2 r t)
      = soft (score x0 x1 x2 (head k) t) r := fun r t => by
    rw [weights_apply]
    simp only [loadKeys_apply, loadQuery_apply, hX]
    rfl
  exact View.PiecesOf.mem ⟨strip_eq (15 : Fin 16) k (k0_off19_inb k) (off_eq15 k) rfl slices_S128x256_o120_0_S8x256 ha,
    strip_eq (14 : Fin 16) k (k0_off18_inb k) (off_eq14 k) rfl slices_S128x256_o112_0_S8x256 ha,
    strip_eq (13 : Fin 16) k (k0_off17_inb k) (off_eq13 k) rfl slices_S128x256_o104_0_S8x256 ha,
    strip_eq (12 : Fin 16) k (k0_off16_inb k) (off_eq12 k) rfl slices_S128x256_o96_0_S8x256 ha,
    strip_eq (11 : Fin 16) k (k0_off15_inb k) (off_eq11 k) rfl slices_S128x256_o88_0_S8x256 ha,
    strip_eq (10 : Fin 16) k (k0_off14_inb k) (off_eq10 k) rfl slices_S128x256_o80_0_S8x256 ha,
    strip_eq (9 : Fin 16) k (k0_off13_inb k) (off_eq9 k) rfl slices_S128x256_o72_0_S8x256 ha,
    strip_eq (8 : Fin 16) k (k0_off12_inb k) (off_eq8 k) rfl slices_S128x256_o64_0_S8x256 ha,
    strip_eq (7 : Fin 16) k (k0_off11_inb k) (off_eq7 k) rfl slices_S128x256_o56_0_S8x256 ha,
    strip_eq (6 : Fin 16) k (k0_off10_inb k) (off_eq6 k) rfl slices_S128x256_o48_0_S8x256 ha,
    strip_eq (5 : Fin 16) k (k0_off9_inb k) (off_eq5 k) rfl slices_S128x256_o40_0_S8x256 ha,
    strip_eq (4 : Fin 16) k (k0_off8_inb k) (off_eq4 k) rfl slices_S128x256_o32_0_S8x256 ha,
    strip_eq (3 : Fin 16) k (k0_off7_inb k) (off_eq3 k) rfl slices_S128x256_o24_0_S8x256 ha,
    strip_eq (2 : Fin 16) k (k0_off6_inb k) (off_eq2 k) rfl slices_S128x256_o16_0_S8x256 ha,
    strip_eq (1 : Fin 16) k (k0_off5_inb k) (off_eq1 k) rfl slices_S128x256_o8_0_S8x256 ha,
    strip_eq (0 : Fin 16) k (k0_off4_inb k) (off_eq0 k) rfl slices_S128x256_o0_0_S8x256 ha, trivial⟩

/-! ## What all trips store -/

theorem pb_eq (𝒱 : Variants) (c : Dev nD) (bd : Option 𝒱.V) (i : grid0.Coords)
    (arg1 : Memref sig .tc .vmem S2048x256 .bf16) (harg1 : arg1.IsWhole) (arg2 : Memref sig .tc .vmem S2048x2048 .bf16) (harg2 : arg2.IsWhole)
    (arg3 : Memref sig .tc .vmem S8x2x128x128 .bf16) (harg3 : arg3.IsWhole) (arg4 : Memref sig .tc .vmem S16x8x8x256 .f32) (harg4 : arg4.IsWhole)
    (arg5 : Memref sig .tc .vmem S16x8x8x256 .f32) (harg5 : arg5.IsWhole) (arg6 : Memref sig .tc .vmem S8x128x256 .bf16) (harg6 : arg6.IsWhole)
    (arg7 : Memref sig .tc .vmem S8x128x256 .bf16) (harg7 : arg7.IsWhole) (arg8 : Memref sig .tc .vmem S2048x256 .bf16) (harg8 : arg8.IsWhole)
    (arg9 : Memref sig .tc .vmem S56x256 .f32) (harg9 : arg9.IsWhole)
    (x0 : Vec Ideal S2048x256 .bf16) (x1 : Vec Ideal S2048x2048 .bf16) (x2 : Vec Ideal S8x2x128x128 .bf16)
    (X8 : BufTy.Contents (Elt Ideal) arg8.view.ty)
    (hX : ∀ j t, View.read (Elt Ideal) arg8.view X8 (ix2 j t) = ∑ d : Fin 2048, (x1 (ix2 j d) : EReal) * (x0 (ix2 d t) : EReal))
    (f4 : BufTy.Contents (Elt Ideal) arg4.view.ty) (f5 : BufTy.Contents (Elt Ideal) arg5.view.ty) (f6 : BufTy.Contents (Elt Ideal) arg6.view.ty)
    (f7 : BufTy.Contents (Elt Ideal) arg7.view.ty) (f9 : BufTy.Contents (Elt Ideal) arg9.view.ty) (n : ℕ) (hn : n ≤ k0_t1_loop.trips) :
    ∀ p ∈ (pb_k0_t1 𝒱 c bd i arg1 harg1 arg2 harg2 arg3 harg3 arg4 harg4 arg5 harg5 arg6 harg6 arg7 harg7 arg8 harg8 arg9 harg9 (harg3.unread x2) X8 f4 f5 f6 f7 f9 n).2.1,
      ∀ x, p.2 x = blk x0 x1 x2 (p.1.emb x) := by
  induction n with
  | zero => intro p hp; exact absurd hp List.not_mem_nil
  | succ n ih =>
    intro p hp
    rw [pb_k0_t1_succ 𝒱 c bd i arg1 harg1 arg2 harg2 arg3 harg3 arg4 harg4 arg5 harg5 arg6 harg6 arg7 harg7 arg8 harg8 arg9 harg9 (harg3.unread x2) X8 f4 f5 f6 f7 f9 ⟨n, hn⟩] at hp
    rcases List.mem_append.mp hp with h | h
    · exact trip_eq 𝒱 c bd i arg1 harg1 arg2 harg2 arg3 harg3 arg4 harg4 arg5 harg5 arg6 harg6 arg7 harg7 arg8 harg8 arg9 harg9 x0 x1 x2 X8 hX ⟨n, hn⟩ _ _ _ _ _ p h
    · exact ih (Nat.le_of_succ_le hn) p h

/-- The scratch buffer holds the queries when the loop begins. -/
theorem scratch_eq (c : Dev nD) {arg1 : Memref sig .tc .vmem S2048x256 .bf16} (harg1 : arg1.IsWhole)
    {arg2 : Memref sig .tc .vmem S2048x2048 .bf16} (harg2 : arg2.IsWhole) (arg8 : Memref sig .tc .vmem S2048x256 .bf16)
    (f : BufTy.Contents (Elt Ideal) arg8.view.ty)
    (x0 : Vec Ideal S2048x256 .bf16) (x1 : Vec Ideal S2048x2048 .bf16) (j : Fin 2048) (t : Fin 256) :
    View.read (Elt Ideal) arg8.view (arg8.view.writes (Elt Ideal) f
        [⟨Rect.unit (s := S2048x256) ![0, 0] S2048x256.size inb_S2048x256_S2048x256_0_0, k0_pay1
          (View.readAt (Elt Ideal) arg2.view (Rect.unit (s := S2048x2048) ![0, 0] S2048x2048.size inb_S2048x2048_S2048x2048_0_0).toLoadRect (harg2.unread x1))
          (View.readAt (Elt Ideal) arg1.view (Rect.unit (s := S2048x256) ![0, 0] S2048x256.size inb_S2048x256_S2048x256_0_0).toLoadRect (harg1.unread x0))⟩]) (ix2 j t)
      = ∑ d : Fin 2048, (x1 (ix2 j d) : EReal) * (x0 (ix2 d t) : EReal) := by
  have h1 : View.readAt (Elt Ideal) arg2.view (Rect.unit (s := S2048x2048) ![0, 0] S2048x2048.size inb_S2048x2048_S2048x2048_0_0).toLoadRect (harg2.unread x1) = x1 := by
    funext x
    refine (congrFun (harg2.read_unread x1) _).trans (congrArg x1 ?_)
    funext b
    refine Fin.ext ?_
    match b with
    | ⟨0, _⟩ => exact (Nat.zero_add _).trans (Nat.one_mul _)
    | ⟨1, _⟩ => exact (Nat.zero_add _).trans (Nat.one_mul _)
  have h0 : View.readAt (Elt Ideal) arg1.view (Rect.unit (s := S2048x256) ![0, 0] S2048x256.size inb_S2048x256_S2048x256_0_0).toLoadRect (harg1.unread x0) = x0 := by
    funext x
    refine (congrFun (harg1.read_unread x0) _).trans (congrArg x0 ?_)
    funext b
    refine Fin.ext ?_
    match b with
    | ⟨0, _⟩ => exact (Nat.zero_add _).trans (Nat.one_mul _)
    | ⟨1, _⟩ => exact (Nat.zero_add _).trans (Nat.one_mul _)
  rw [h0, h1]
  have hemb : ∀ x : S2048x256.Idx, (Rect.unit (s := S2048x256) ![0, 0] S2048x256.size inb_S2048x256_S2048x256_0_0).emb x = x := fun x => by
    funext b
    refine Fin.ext ?_
    match b with
    | ⟨0, _⟩ => exact (Nat.zero_add _).trans (Nat.one_mul _)
    | ⟨1, _⟩ => exact (Nat.zero_add _).trans (Nat.one_mul _)
  have hc : ∀ y : S2048x256.Idx, ∃ p ∈ [(⟨Rect.unit (s := S2048x256) ![0, 0] S2048x256.size inb_S2048x256_S2048x256_0_0, k0_pay1 x1 x0⟩ : View.Piece (Elt Ideal) S2048x256 .bf16)],
      y ∈ p.1.set := fun y => ⟨_, List.mem_singleton.mpr rfl, (LoadRect.mem_set _).mpr fun a => ⟨(y a).val, (y a).isLt, congrArg (fun z : S2048x256.Idx => (z a).val) (hemb y).symm⟩⟩
  rw [View.read_writes_eq_canon _ _ _ hc]
  refine (View.canon_apply_of_pieces (k0_pay1 x1 x0) _ ?_ _ (hc _)).trans (query_apply x1 x0 j t)
  intro p hp x
  obtain rfl := List.mem_singleton.mp hp
  exact congrArg (k0_pay1 x1 x0) (hemb x).symm

/-- What the kernel's run leaves in the block of first halves' weights, element by element. -/
theorem out_apply (c : Dev nD) (i : grid0.Coords)
    (arg1 : Memref sig .tc .vmem S2048x256 .bf16) (harg1 : arg1.IsWhole) (arg2 : Memref sig .tc .vmem S2048x2048 .bf16) (harg2 : arg2.IsWhole)
    (arg3 : Memref sig .tc .vmem S8x2x128x128 .bf16) (harg3 : arg3.IsWhole) (arg4 : Memref sig .tc .vmem S16x8x8x256 .f32) (harg4 : arg4.IsWhole)
    (arg5 : Memref sig .tc .vmem S16x8x8x256 .f32) (harg5 : arg5.IsWhole) (arg6 : Memref sig .tc .vmem S8x128x256 .bf16) (harg6 : arg6.IsWhole)
    (arg7 : Memref sig .tc .vmem S8x128x256 .bf16) (harg7 : arg7.IsWhole) (arg8 : Memref sig .tc .vmem S2048x256 .bf16) (harg8 : arg8.IsWhole)
    (arg9 : Memref sig .tc .vmem S56x256 .f32) (harg9 : arg9.IsWhole)
    (x0 : Vec Ideal S2048x256 .bf16) (x1 : Vec Ideal S2048x2048 .bf16) (x2 : Vec Ideal S8x2x128x128 .bf16) (y : S16x8x8x256.Idx) :
    out0_A_4 c i arg1 harg1 arg2 harg2 arg3 harg3 arg4 harg4 arg5 harg5 arg6 harg6 arg7 harg7 arg8 harg8 arg9 harg9 x0 x1 x2 y = blk x0 x1 x2 y := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2)]
  refine View.canon_apply_of_pieces (blk x0 x1 x2) _ ?_ y (cover0_A_4 c i arg1 harg1 arg2 harg2 arg3 harg3 arg4 harg4 arg5 harg5 arg6 harg6 arg7 harg7 arg8 harg8 arg9 harg9 x0 x1 x2 y)
  unfold kernelRun0_A
  exact pb_eq Variants.none c none i arg1 harg1 arg2 harg2 arg3 harg3 arg4 harg4 arg5 harg5 arg6 harg6 arg7 harg7 arg8 harg8 arg9 harg9 x0 x1 x2 _ (scratch_eq c harg1 harg2 arg8 _ x0 x1) _ _ _ _ _ _ le_rfl

end Cert.Kernel6Ideal.Top

end
-- ==== Proof.TopOut.lean ====
/-
  The top-k call's array of first halves' weights, over the extended reals: for every token and head the exponentials of the
  scores of the first 128 keys less their maximum.
-/
module

public import proofs.«01_k».proof.Proof.TopValueIdeal
public import proofs.«01_k».proof.Proof.TopBlock

@[expose] public section

set_option maxRecDepth 16384

noncomputable section

namespace Cert.Kernel6Ideal.Top

open Idealize.ShloMosaic Idealize.ShloMosaic.TcCoe Idealize.SL.Sem
open Idealize.ShloMosaic.Pipeline (Dat)
open Cert.Kernel6Ideal Cert.Kernel6Ideal.Gen
open scoped BigOperators

/-- A head's score of key `k` for token `t`: the key's product with the token's query. -/
def rowScore (X : Vec Ideal S2048x16384 .bf16) (W : Vec Ideal S2048x2048 .bf16) (K : Vec Ideal S8x2x128x128 .f32)
    (h : Fin 8) (t : Fin 16384) (k : Fin 128) : EReal :=
  ∑ c : Fin 128, (K (ix4 h 0 k c) : EReal)
    * ∑ d : Fin 2048, (W (ix2 ⟨256 * h.val + c.val, by omega⟩ d) : EReal) * (X (ix2 d t) : EReal)

/-- The weights of every token and head, laid out as the kernel's result. -/
def firsts (X : Vec Ideal S2048x16384 .bf16) (W : Vec Ideal S2048x2048 .bf16) (K : Vec Ideal S8x2x128x128 .f32) :
    Vec Ideal S16x8x8x16384 .f32 := fun y =>
  soft (rowScore X W K (y 1) (y 3))
    ⟨8 * (y 0).val + (y 2).val, by
      have h0 : (y 0).val < 16 := (y 0).isLt
      have h2 : (y 2).val < 8 := (y 2).isLt
      omega⟩

variable (m : (ℓ : Loc nD τ sig) → Buf (Elt Ideal) ℓ)

/-- The block each window reads or writes at a grid point. -/
theorem idx : ∀ t : Fin cfg0.N, win0_0.index t = ![0, t.val] ∧ win0_1.index t = ![0, 0]
    ∧ win0_2.index t = ![0, 0, 0, 0] ∧ win0_4.index t = ![0, 0, 0, t.val] :=
  (by decide +kernel : ∀ t : Fin grid0.N, _)

theorem soft_congr {s s' : Fin 128 → EReal} {r r' : Fin 128} (hs : s = s') (hr : r = r') : soft s r = soft s' r' := by
  rw [hs, hr]

/-- One element of the block a grid point writes is the array's element there. -/
theorem point (c : Dev nD) (t : Fin cfg0.N) (y : S16x8x8x256.Idx) :
    blk (iblk m c 0 t) (iblk m c 1 t) (iblk m c 2 t) y
      = firsts (m ((c : Thread nD τ).loc main_arg0)) (m ((c : Thread nD τ).loc main_arg1)) (m ((c : Thread nD τ).loc main_arg2))
          (((cfg0.win 4).blk t).view.emb y) := by
  have ht : t.val < 64 := t.isLt
  have hy0 : (y 0).val < 16 := (y 0).isLt
  have hy1 : (y 1).val < 8 := (y 1).isLt
  have hy2 : (y 2).val < 8 := (y 2).isLt
  have hy3 : (y 3).val < 256 := (y 3).isLt
  have e0 : ((((cfg0.win 4).blk t).view.emb y) 0).val = (y 0).val := by
    blk_simp [idx t] <;> try omega
  have e1 : ((((cfg0.win 4).blk t).view.emb y) 1) = y 1 := by
    refine Fin.ext ?_
    blk_simp [idx t] <;> try omega
  have e2 : ((((cfg0.win 4).blk t).view.emb y) 2).val = (y 2).val := by
    blk_simp [idx t] <;> try omega
  have e3v : ((((cfg0.win 4).blk t).view.emb y) 3).val = 256 * t.val + (y 3).val := by
    blk_simp [idx t] <;> try omega
  have e3 : ((((cfg0.win 4).blk t).view.emb y) 3) = (⟨256 * t.val + (y 3).val, by omega⟩ : Fin 16384) := Fin.ext e3v
  unfold blk firsts
  rw [e1, e3]
  refine soft_congr (funext fun k => ?_) (Fin.ext ?_)
  · unfold score rowScore
    refine Finset.sum_congr rfl fun j _ => congrArg₂ (· * ·) ?_ (Finset.sum_congr rfl fun d _ => congrArg₂ (· * ·) ?_ ?_)
    · blk_point [iblk, V, idx t]
    · blk_point [iblk, V, idx t]
    · blk_point [iblk, V, idx t]
  · change 8 * (y 0).val + (y 2).val = 8 * _ + _
    rw [e0, e2]

/-- The kernel's output array after the run. -/
theorem final (c : Dev nD) : (dats m 0 c).arrAt 4 (cfgs 0).N
    = firsts (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact (out_apply c _ _ _ _ _ _ _ _ _ _ _ _ _ _ _ _ _ _ _ _ _ _ y).trans (point m c t y)

end Cert.Kernel6Ideal.Top

end
-- ==== Proof.TopRef.lean ====
/-
  The reference's array of first halves' weights is the array of `TopOut.lean`.
-/
module

public import proofs.«01_k».proof.Proof.TopOut
public import proofs.«01_k».proof.Proof.Gen.Reference6Ideal.Read

@[expose] public section

set_option maxRecDepth 16384

noncomputable section

namespace Cert.Kernel6Ideal.Top

open Idealize.ShloMosaic Idealize.SL.Sem
open Cert.Kernel6Ideal
open Cert.Reference6Ideal.Read
open scoped BigOperators

variable (X : Vec Ideal S2048x16384 .bf16) (W : Vec Ideal S2048x2048 .bf16) (K : Vec Ideal S8x2x128x128 .f32)

theorem ref_query (t : Fin 16384) (j : Fin 2048) : val_main_v4 (F := Ideal) X W (ix2 t j)
    = ∑ d : Fin 2048, (W (ix2 j d) : EReal) * (X (ix2 d t) : EReal) := by
  rw [val_main_v4_apply]
  refine Finset.sum_congr rfl fun d _ => ?_
  rw [val_main_v1_apply, val_main_v3_apply]
  refine (mul_comm (G := EReal) _ _).trans (congrArg₂ (· * ·) ?_ ?_)
  · exact (val_main_v2_apply (F := Ideal) W _).trans (congrArg W (by funext a; match a with | ⟨0, _⟩ => rfl | ⟨1, _⟩ => rfl))
  · exact (val_main_v0_apply (F := Ideal) X _).trans (congrArg X (by funext a; match a with | ⟨0, _⟩ => rfl | ⟨1, _⟩ => rfl))

theorem ref_score (t : Fin 16384) (h : Fin 8) (k : Fin 128) : val_main_v9 (F := Ideal) X W K (ix3 t h k) = rowScore X W K h t k := by
  rw [val_main_v9_apply, val_main_v8_apply, val_main_v7_apply, val_main_v6_apply]
  unfold rowScore
  refine Finset.sum_congr rfl fun c _ => congrArg₂ (· * ·) (congrArg K ?_) ?_
  · funext a
    refine Fin.ext ?_
    match a with
    | ⟨0, _⟩ => change ((t.val * 8 + h.val) * 128 + k.val) / 128 % 8 = h.val; omega
    | ⟨1, _⟩ => rfl
    | ⟨2, _⟩ => change ((t.val * 8 + h.val) * 128 + k.val) % 128 = k.val; omega
    | ⟨3, _⟩ => rfl
  · rw [val_main_v5_apply, ← ref_query]
    refine congrArg (val_main_v4 (F := Ideal) X W) ?_
    have e0 : ((t.val * 8 + h.val) * 128 + k.val) / 1024 = t.val := by omega
    have e1 : ((t.val * 8 + h.val) * 128 + k.val) / 128 % 8 = h.val := by omega
    funext a
    refine Fin.ext ?_
    match a with
    | ⟨0, _⟩ =>
      change ((((((t.val * 8 + h.val) * 128 + k.val) / 1024) * 8 + ((t.val * 8 + h.val) * 128 + k.val) / 128 % 8) * 2 + 0) * 128 + c.val) / 2048 = t.val
      rw [e0, e1]; omega
    | ⟨1, _⟩ =>
      change ((((((t.val * 8 + h.val) * 128 + k.val) / 1024) * 8 + ((t.val * 8 + h.val) * 128 + k.val) / 128 % 8) * 2 + 0) * 128 + c.val) % 2048 = 256 * h.val + c.val
      rw [e0, e1]; omega

theorem ref_top (t : Fin 16384) (h : Fin 8) : val_main_v10 (F := Ideal) X W K (ix2 t h)
    = Finset.univ.fold max (FloatOps.ofBits (F := Ideal) .f32 0xFF800000#32) (rowScore X W K h t) := by
  have e : rowScore X W K h t = fun k => val_main_v9 (F := Ideal) X W K (ix3 t h k) := funext fun k => (ref_score X W K t h k).symm
  rw [e]
  unfold val_main_v10 val_main_cst
  generalize val_main_v9 (F := Ideal) X W K = a
  pointwise

theorem ref_weight (t : Fin 16384) (h : Fin 8) (r : Fin 128) :
    val_main_v14 (F := Ideal) X W K (ix3 t h r) = soft (rowScore X W K h t) r := by
  have ht : idx_main_v11 (idx_main_v12 (ix3 t h r)) = ix2 t h := by
    funext a; match a with | ⟨0, _⟩ => rfl | ⟨1, _⟩ => rfl
  rw [val_main_v14_apply, val_main_v13_apply, ref_score, val_main_v12_apply, val_main_v11_apply, ht, ref_top]
  rfl

/-- The reference's array. -/
theorem ref_eq : val_main_v16 (F := Ideal) X W K = firsts X W K := by
  funext y
  have h0 : (y 0).val < 16 := (y 0).isLt
  have h1 : (y 1).val < 8 := (y 1).isLt
  have h2 : (y 2).val < 8 := (y 2).isLt
  have h3 : (y 3).val < 16384 := (y 3).isLt
  have hi : idx_main_v15 (idx_main_v16 y) = ix3 (y 3) (y 1) (⟨8 * (y 0).val + (y 2).val, by omega⟩ : Fin 128) := by
    funext a
    refine Fin.ext ?_
    match a with
    | ⟨0, _⟩ => change ((((y 3).val * 8 + (y 1).val) * 16 + (y 0).val) * 8 + (y 2).val) / 1024 = (y 3).val; omega
    | ⟨1, _⟩ => change ((((y 3).val * 8 + (y 1).val) * 16 + (y 0).val) * 8 + (y 2).val) / 128 % 8 = (y 1).val; omega
    | ⟨2, _⟩ => change ((((y 3).val * 8 + (y 1).val) * 16 + (y 0).val) * 8 + (y 2).val) % 128 = 8 * (y 0).val + (y 2).val; omega
  exact (val_main_v16_apply X W K y).trans ((val_main_v15_apply X W K _).trans
    ((congrArg (val_main_v14 (F := Ideal) X W K) hi).trans (ref_weight X W K _ _ _)))

end Cert.Kernel6Ideal.Top

end
-- ==== Proof.lean ====
module

public import proofs.«01_k».proof.Defs
public import proofs.«01_k».proof.Proof.Qkv
public import proofs.«01_k».proof.Proof.In0
public import proofs.«01_k».proof.Proof.Out0
public import proofs.«01_k».proof.Proof.SbOut
public import proofs.«01_k».proof.Proof.AttnRef
public import proofs.«01_k».proof.Proof.In0Dt
public import proofs.«01_k».proof.Proof.Gmlp
public import proofs.«01_k».proof.Proof.Norm
public import proofs.«01_k».proof.Proof.NormT
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.TopFramePrint
public import proofs.«01_k».proof.Proof.TopFrameIdeal
public import proofs.«01_k».proof.Proof.TopValueIdeal
public import proofs.«01_k».proof.Proof.TopRef
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

theorem frame_ref : Cert.quiescent_ReferenceIdeal := fun m ρ _ =>
  (θ_run _ _ _).mono (fun r h => ⟨fun c => (h c).2, sem_eq_zero_of_no_sems (by decide) _⟩)
    (Cert.ReferenceIdeal.Value.run m ρ)

theorem algebraic : Cert.algebraic_KernelIdeal_ReferenceIdeal := by
  pair_intro
  · run_from Cert.KernelIdeal.Value.run_blocks m g
  · run_from Cert.ReferenceIdeal.Value.run m' g'
    rw [Cert.ReferenceIdeal.Read.val_main_v30_eq, Cert.ReferenceIdeal.Attn.ref_eq]
    exact (congrArg Cert.KernelIdeal.Attn.attn (hagree c)).trans (Cert.KernelIdeal.Attn.final m c).symm

theorem frame_ref2 : Cert.quiescent_Reference2Ideal := fun m ρ _ =>
  (θ_run _ _ _).mono (fun r h => ⟨fun c => (h c).2, sem_eq_zero_of_no_sems (by decide) _⟩)
    (Cert.Reference2Ideal.Value.run m ρ)

theorem algebraic2 : Cert.algebraic_Kernel2Ideal_Reference2Ideal := by
  pair_intro
  · run_from Cert.Kernel2Ideal.Value.run_blocks m g
  · run_from Cert.Reference2Ideal.Value.run m' g'
    exact (Cert.Kernel2Ideal.Out.final m c).symm

theorem frame_ref3 : Cert.quiescent_Reference3Ideal := fun m ρ _ =>
  (θ_run _ _ _).mono (fun r h => ⟨fun c => (h c).2, sem_eq_zero_of_no_sems (by decide) _⟩)
    (Cert.Reference3Ideal.Value.run m ρ)

theorem algebraic3 : Cert.algebraic_Kernel3Ideal_Reference3Ideal := by
  pair_intro
  · run_from Cert.Kernel3Ideal.Value.run_blocks m g
  · run_from Cert.Reference3Ideal.Value.run m' g'
    exact (Cert.Kernel3Ideal.Out.final m c).symm

theorem frame_ref4 : Cert.quiescent_Reference4Ideal := fun m ρ _ =>
  (θ_run _ _ _).mono (fun r h => ⟨fun c => (h c).2, sem_eq_zero_of_no_sems (by decide) _⟩)
    (Cert.Reference4Ideal.Value.run m ρ)

theorem algebraic4 : Cert.algebraic_Kernel4Ideal_Reference4Ideal := by
  pair_intro
  · run_from Cert.Kernel4Ideal.Value.run_blocks m g
  · run_from Cert.Reference4Ideal.Value.run m' g'
    exact (Cert.Kernel4Ideal.Out.final m c).symm

theorem frame_ref5 : Cert.quiescent_Reference5Ideal := fun m ρ _ =>
  (θ_run _ _ _).mono (fun r h => ⟨fun c => (h c).2, sem_eq_zero_of_no_sems (by decide) _⟩)
    (Cert.Reference5Ideal.Value.run m ρ)

theorem algebraic5 : Cert.algebraic_Kernel5Ideal_Reference5Ideal := by
  pair_intro
  · run_from Cert.Kernel5Ideal.Value.run_blocks m g
  · run_from Cert.Reference5Ideal.Value.run m' g'
    exact (Cert.Kernel5Ideal.Out.final m c).symm

theorem frame_ref6 : Cert.quiescent_Reference6Ideal := fun m ρ _ =>
  (θ_run _ _ _).mono (fun r h => ⟨fun c => (h c).2, sem_eq_zero_of_no_sems (by decide) _⟩)
    (Cert.Reference6Ideal.Value.run m ρ)

theorem algebraic6 : Cert.algebraic_Kernel6Ideal_Reference6Ideal := by
  pair_intro
  · run_from Cert.Kernel6Ideal.Value.run_blocks m g
  · run_from Cert.Reference6Ideal.Value.run m' g'
    rw [Cert.Reference6Ideal.Read.val_main_v16_eq, Cert.Kernel6Ideal.Top.ref_eq]
    exact (Cert.Kernel6Ideal.Top.final m c).symm

theorem frame_ref7 : Cert.quiescent_Reference7Ideal := fun m ρ _ =>
  (θ_run _ _ _).mono (fun r h => ⟨fun c => (h c).2, sem_eq_zero_of_no_sems (by decide) _⟩)
    (Cert.Reference7Ideal.Value.run m ρ)

theorem algebraic7 : Cert.algebraic_Kernel7Ideal_Reference7Ideal := by
  pair_intro
  · run_from Cert.Kernel7Ideal.Value.run_blocks m g
  · run_from Cert.Reference7Ideal.Value.run m' g'
    exact (Cert.Kernel7Ideal.Out.final m c).symm

theorem frame_ref8 : Cert.quiescent_Reference8Ideal := fun m ρ _ =>
  (θ_run _ _ _).mono (fun r h => ⟨fun c => (h c).2, sem_eq_zero_of_no_sems (by decide) _⟩)
    (Cert.Reference8Ideal.Value.run m ρ)

theorem algebraic8 : Cert.algebraic_Kernel8Ideal_Reference8Ideal := by
  pair_intro
  · run_from Cert.Kernel8Ideal.Value.run_blocks m g
  · run_from Cert.Reference8Ideal.Value.run m' g'
    obtain ⟨h0, h1, h2, h3, h4⟩ := hagree c
    rw [Cert.Reference8Ideal.Read.val_main_v58_eq, Cert.Reference8Ideal.Gate.ref_eq, h0, h1, h2, h3, h4]
    exact (Cert.Kernel8Ideal.Out.final m c).symm

theorem frame_ref9 : Cert.quiescent_Reference9Ideal := fun m ρ _ =>
  (θ_run _ _ _).mono (fun r h => ⟨fun c => (h c).2, sem_eq_zero_of_no_sems (by decide) _⟩)
    (Cert.Reference9Ideal.Value.run m ρ)

theorem algebraic9 : Cert.algebraic_Kernel9Ideal_Reference9Ideal := by
  pair_intro
  · run_from Cert.Kernel9Ideal.Value.run_blocks m g
  · run_from Cert.Reference9Ideal.Value.run m' g'
    exact (Cert.Kernel9Ideal.Out.final m c).symm

theorem frame_ref10 : Cert.quiescent_Reference10Ideal := fun m ρ _ =>
  (θ_run _ _ _).mono (fun r h => ⟨fun c => (h c).2, sem_eq_zero_of_no_sems (by decide) _⟩)
    (Cert.Reference10Ideal.Value.run m ρ)

theorem algebraic10 : Cert.algebraic_Kernel10Ideal_Reference10Ideal := by
  pair_intro
  · run_from Cert.Kernel10Ideal.Value.run_blocks m g
  · run_from Cert.Reference10Ideal.Value.run m' g'
    exact (Cert.Kernel10Ideal.Out.final m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
    fun m ρ _ => Cert.Kernel.Gen.frame m ρ, fun m ρ _ => Cert.KernelIdeal.Gen.frame m ρ, frame_ref, fun m ρ _ => Cert.Kernel2.Gen.frame m ρ, fun m ρ _ => Cert.Kernel2Ideal.Gen.frame m ρ, frame_ref2, fun m ρ _ => Cert.Kernel3.Gen.frame m ρ, fun m ρ _ => Cert.Kernel3Ideal.Gen.frame m ρ, frame_ref3, fun m ρ _ => Cert.Kernel4.Gen.frame m ρ, fun m ρ _ => Cert.Kernel4Ideal.Gen.frame m ρ, frame_ref4, fun m ρ _ => Cert.Kernel5.Gen.frame m ρ, fun m ρ _ => Cert.Kernel5Ideal.Gen.frame m ρ, frame_ref5, fun m ρ _ => Cert.Kernel6.Gen.frame m ρ, fun m ρ _ => Cert.Kernel6Ideal.Gen.frame m ρ, frame_ref6, fun m ρ _ => Cert.Kernel7.Gen.frame m ρ, fun m ρ _ => Cert.Kernel7Ideal.Gen.frame m ρ, frame_ref7, fun m ρ _ => Cert.Kernel8.Gen.frame m ρ, fun m ρ _ => Cert.Kernel8Ideal.Gen.frame m ρ, frame_ref8, fun m ρ _ => Cert.Kernel9.Gen.frame m ρ, fun m ρ _ => Cert.Kernel9Ideal.Gen.frame m ρ, frame_ref9, fun m ρ _ => Cert.Kernel10.Gen.frame m ρ, fun m ρ _ => Cert.Kernel10Ideal.Gen.frame m ρ, frame_ref10, trivial, algebraic, trivial, algebraic2, trivial, algebraic3, trivial, algebraic4, trivial, algebraic5, trivial, algebraic6, trivial, algebraic7, trivial, algebraic8, trivial, algebraic9, trivial, algebraic10⟩

end Cert.Proof

end
